-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt2" .bf16 0x3F35#16 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x768 : Shape := ⟨2, ![2048, 768]⟩
abbrev S768x3 : Shape := ⟨2, ![768, 3]⟩
abbrev S3 : Shape := ⟨1, ![3]⟩
abbrev S3x768x8 : Shape := ⟨3, ![3, 768, 8]⟩
abbrev S3x8 : Shape := ⟨2, ![3, 8]⟩
abbrev S3x8x768x3072 : Shape := ⟨4, ![3, 8, 768, 3072]⟩
abbrev S3x8x3072 : Shape := ⟨3, ![3, 8, 3072]⟩
abbrev S3x8x3072x768 : Shape := ⟨4, ![3, 8, 3072, 768]⟩
abbrev S3x8x768 : Shape := ⟨3, ![3, 8, 768]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S768x3 : S_.BroadcastsInDim S768x3 (![] : Fin 0 → Fin S768x3.rank)
  reducesTo_S768x3_S_d0_1 : S768x3.ReducesTo [0, 1] S_
  bcast_S_S3 : S_.BroadcastsInDim S3 (![] : Fin 0 → Fin S3.rank)
  reducesTo_S3_S_d0 : S3.ReducesTo [0] S_
  bcast_S_S3x768x8 : S_.BroadcastsInDim S3x768x8 (![] : Fin 0 → Fin S3x768x8.rank)
  reducesTo_S3x768x8_S_d0_1_2 : S3x768x8.ReducesTo [0, 1, 2] S_
  bcast_S_S3x8 : S_.BroadcastsInDim S3x8 (![] : Fin 0 → Fin S3x8.rank)
  reducesTo_S3x8_S_d0_1 : S3x8.ReducesTo [0, 1] S_
  bcast_S_S3x8x768x3072 : S_.BroadcastsInDim S3x8x768x3072 (![] : Fin 0 → Fin S3x8x768x3072.rank)
  reducesTo_S3x8x768x3072_S_d0_1_2_3 : S3x8x768x3072.ReducesTo [0, 1, 2, 3] S_
  bcast_S_S3x8x3072 : S_.BroadcastsInDim S3x8x3072 (![] : Fin 0 → Fin S3x8x3072.rank)
  reducesTo_S3x8x3072_S_d0_1_2 : S3x8x3072.ReducesTo [0, 1, 2] S_

variable [Facts]

def fn_part2 {F : FTy → Type} [FloatOps F] (main_v29 : IVec S_ 1) (main_v32 : IVec S3x8x3072 1) (main_c_12 : IVec S_ 1) : IVec S_ 1 :=
  let main_v33 : IVec S_ 1 := (fun x v => Host.reduce IntOp.andi x v reducesTo_S3x8x3072_S_d0_1_2 h_S_) main_v32 main_c_12
  let main_v34 : IVec S_ 1 := andi main_v29 main_v33
  main_v34

def fn_part1 {F : FTy → Type} [FloatOps F] (main_arg4 : FVec F S3x8 .f32) (main_arg5 : FVec F S3x8x768x3072 .f32) (main_arg6 : FVec F S3x8x3072 .f32) (main_v14 : IVec S_ 1) (main_v15 : FVec F S3x768x8 .f32) (main_cst_5 : FVec F S_ .f32) : IVec S_ 1 :=
  let main_v16 : FVec F S3x768x8 .f32 := broadcastInDim S3x768x8 ![] bcast_S_S3x768x8 main_cst_5
  let main_v17 : IVec S3x768x8 1 := cmpf .olt main_v15 main_v16
  let main_c_6 : IVec S_ 1 := constantI S_ 1 1#1
  let main_v18 : IVec S_ 1 := (fun x v => Host.reduce IntOp.andi x v reducesTo_S3x768x8_S_d0_1_2 h_S_) main_v17 main_c_6
  let main_v19 : IVec S_ 1 := andi main_v14 main_v18
  let main_v20 : FVec F S3x8 .f32 := Host.absf main_arg4
  let main_cst_7 : FVec F S_ .f32 := constant S_ .f32 0x7F800000#32
  let main_v21 : FVec F S3x8 .f32 := broadcastInDim S3x8 ![] bcast_S_S3x8 main_cst_7
  let main_v22 : IVec S3x8 1 := cmpf .olt main_v20 main_v21
  let main_c_8 : IVec S_ 1 := constantI S_ 1 1#1
  let main_v23 : IVec S_ 1 := (fun x v => Host.reduce IntOp.andi x v reducesTo_S3x8_S_d0_1 h_S_) main_v22 main_c_8
  let main_v24 : IVec S_ 1 := andi main_v19 main_v23
  let main_v25 : FVec F S3x8x768x3072 .f32 := Host.absf main_arg5
  let main_cst_9 : FVec F S_ .f32 := constant S_ .f32 0x7F800000#32
  let main_v26 : FVec F S3x8x768x3072 .f32 := broadcastInDim S3x8x768x3072 ![] bcast_S_S3x8x768x3072 main_cst_9
  let main_v27 : IVec S3x8x768x3072 1 := cmpf .olt main_v25 main_v26
  let main_c_10 : IVec S_ 1 := constantI S_ 1 1#1
  let main_v28 : IVec S_ 1 := (fun x v => Host.reduce IntOp.andi x v reducesTo_S3x8x768x3072_S_d0_1_2_3 h_S_) main_v27 main_c_10
  let main_v29 : IVec S_ 1 := andi main_v24 main_v28
  let main_v30 : FVec F S3x8x3072 .f32 := Host.absf main_arg6
  let main_cst_11 : FVec F S_ .f32 := constant S_ .f32 0x7F800000#32
  let main_v31 : FVec F S3x8x3072 .f32 := broadcastInDim S3x8x3072 ![] bcast_S_S3x8x3072 main_cst_11
  let main_v32 : IVec S3x8x3072 1 := cmpf .olt main_v30 main_v31
  let main_c_12 : IVec S_ 1 := constantI S_ 1 1#1
  fn_part2 (F := F) main_v29 main_v32 main_c_12

def fn {F : FTy → Type} [FloatOps F] (main_arg0 : FVec F S2048x768 .f32) (main_arg1 : FVec F S768x3 .f32) (main_arg2 : FVec F S3 .f32) (main_arg3 : FVec F S3x768x8 .f32) (main_arg4 : FVec F S3x8 .f32) (main_arg5 : FVec F S3x8x768x3072 .f32) (main_arg6 : FVec F S3x8x3072 .f32) (main_arg7 : FVec F S3x8x3072x768 .f32) (main_arg8 : FVec F S3x8x768 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_c_0 : IVec S_ 1 := constantI S_ 1 1#1
  let main_v4 : IVec S_ 1 := andi main_c_0 main_v3
  let main_v5 : FVec F S768x3 .f32 := Host.absf main_arg1
  let main_cst_1 : FVec F S_ .f32 := constant S_ .f32 0x7F800000#32
  let main_v6 : FVec F S768x3 .f32 := broadcastInDim S768x3 ![] bcast_S_S768x3 main_cst_1
  let main_v7 : IVec S768x3 1 := cmpf .olt main_v5 main_v6
  let main_c_2 : IVec S_ 1 := constantI S_ 1 1#1
  let main_v8 : IVec S_ 1 := (fun x v => Host.reduce IntOp.andi x v reducesTo_S768x3_S_d0_1 h_S_) main_v7 main_c_2
  let main_v9 : IVec S_ 1 := andi main_v4 main_v8
  let main_v10 : FVec F S3 .f32 := Host.absf main_arg2
  let main_cst_3 : FVec F S_ .f32 := constant S_ .f32 0x7F800000#32
  let main_v11 : FVec F S3 .f32 := broadcastInDim S3 ![] bcast_S_S3 main_cst_3
  let main_v12 : IVec S3 1 := cmpf .olt main_v10 main_v11
  let main_c_4 : IVec S_ 1 := constantI S_ 1 1#1
  let main_v13 : IVec S_ 1 := (fun x v => Host.reduce IntOp.andi x v reducesTo_S3_S_d0 h_S_) main_v12 main_c_4
  let main_v14 : IVec S_ 1 := andi main_v9 main_v13
  let main_v15 : FVec F S3x768x8 .f32 := Host.absf main_arg3
  let main_cst_5 : FVec F S_ .f32 := constant S_ .f32 0x7F800000#32
  fn_part1 (F := F) main_arg4 main_arg5 main_arg6 main_v14 main_v15 main_cst_5
-- ==== Kernel.lean ====
abbrev S2048x768 : Shape := ⟨2, ![2048, 768]⟩
abbrev S768x3 : Shape := ⟨2, ![768, 3]⟩
abbrev S3 : Shape := ⟨1, ![3]⟩
abbrev S3x768x8 : Shape := ⟨3, ![3, 768, 8]⟩
abbrev S3x8 : Shape := ⟨2, ![3, 8]⟩
abbrev S3x8x768x3072 : Shape := ⟨4, ![3, 8, 768, 3072]⟩
abbrev S3x8x3072 : Shape := ⟨3, ![3, 8, 3072]⟩
abbrev S3x8x3072x768 : Shape := ⟨4, ![3, 8, 3072, 768]⟩
abbrev S3x8x768 : Shape := ⟨3, ![3, 8, 768]⟩
abbrev S768x3x8 : Shape := ⟨3, ![768, 3, 8]⟩
abbrev S768x24 : Shape := ⟨2, ![768, 24]⟩
abbrev S1x3 : Shape := ⟨2, ![1, 3]⟩
abbrev S1x24 : Shape := ⟨2, ![1, 24]⟩
abbrev S24x768x3072 : Shape := ⟨3, ![24, 768, 3072]⟩
abbrev S24x1x3072 : Shape := ⟨3, ![24, 1, 3072]⟩
abbrev S24x3072x768 : Shape := ⟨3, ![24, 3072, 768]⟩
abbrev S24x768 : Shape := ⟨2, ![24, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S2048x24 : Shape := ⟨2, ![2048, 24]⟩
abbrev S2048x3 : Shape := ⟨2, ![2048, 3]⟩
abbrev S2048 : Shape := ⟨1, ![2048]⟩
abbrev S2048x1 : Shape := ⟨2, ![2048, 1]⟩
abbrev S2048x8 : Shape := ⟨2, ![2048, 8]⟩
abbrev S1x768x1024 : Shape := ⟨3, ![1, 768, 1024]⟩
abbrev S768x1024 : Shape := ⟨2, ![768, 1024]⟩
abbrev S1x1024x768 : Shape := ⟨3, ![1, 1024, 768]⟩
abbrev S1024x768 : Shape := ⟨2, ![1024, 768]⟩
abbrev S1x1x1024 : Shape := ⟨3, ![1, 1, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 21
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S768x3, .f32⟩
  | .hbm, ⟨2, _⟩ => ⟨S3, .f32⟩
  | .hbm, ⟨3, _⟩ => ⟨S3x768x8, .f32⟩
  | .hbm, ⟨4, _⟩ => ⟨S3x8, .f32⟩
  | .hbm, ⟨5, _⟩ => ⟨S3x8x768x3072, .f32⟩
  | .hbm, ⟨6, _⟩ => ⟨S3x8x3072, .f32⟩
  | .hbm, ⟨7, _⟩ => ⟨S3x8x3072x768, .f32⟩
  | .hbm, ⟨8, _⟩ => ⟨S3x8x768, .f32⟩
  | .hbm, ⟨9, _⟩ => ⟨S2048x768, .bf16⟩
  | .hbm, ⟨10, _⟩ => ⟨S768x3, .bf16⟩
  | .hbm, ⟨11, _⟩ => ⟨S768x3x8, .f32⟩
  | .hbm, ⟨12, _⟩ => ⟨S768x24, .f32⟩
  | .hbm, ⟨13, _⟩ => ⟨S768x24, .bf16⟩
  | .hbm, ⟨14, _⟩ => ⟨S1x3, .f32⟩
  | .hbm, ⟨15, _⟩ => ⟨S1x24, .f32⟩
  | .hbm, ⟨16, _⟩ => ⟨S24x768x3072, .f32⟩
  | .hbm, ⟨17, _⟩ => ⟨S24x1x3072, .f32⟩
  | .hbm, ⟨18, _⟩ => ⟨S24x3072x768, .f32⟩
  | .hbm, ⟨19, _⟩ => ⟨S24x768, .f32⟩
  | .hbm, ⟨20, _⟩ => ⟨S2048x768, .f32⟩
  | .local _ .vmem, ⟨0, _⟩ => ⟨S2048x768, .bf16⟩
  | .local _ .vmem, ⟨1, _⟩ => ⟨S768x3, .bf16⟩
  | .local _ .vmem, ⟨2, _⟩ => ⟨S1x3, .f32⟩
  | .local _ .vmem, ⟨3, _⟩ => ⟨S768x24, .bf16⟩
  | .local _ .vmem, ⟨4, _⟩ => ⟨S1x24, .f32⟩
  | .local _ .vmem, ⟨5, _⟩ => ⟨S24x768, .f32⟩
  | .local _ .vmem, ⟨6, _⟩ => ⟨S1x768x3072, .f32⟩
  | .local _ .vmem, ⟨7, _⟩ => ⟨S1x768x3072, .f32⟩
  | .local _ .vmem, ⟨8, _⟩ => ⟨S1x1x3072, .f32⟩
  | .local _ .vmem, ⟨9, _⟩ => ⟨S1x1x3072, .f32⟩
  | .local _ .vmem, ⟨10, _⟩ => ⟨S1x3072x768, .f32⟩
  | .local _ .vmem, ⟨11, _⟩ => ⟨S1x3072x768, .f32⟩
  | .local _ .vmem, ⟨12, _⟩ => ⟨S2048x768, .f32⟩
  | .local _ .vmem, ⟨13, _⟩ => ⟨S2048x24, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x24 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x768x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3072x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2048x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S2048x768 : Shape := ⟨2, ![2048, 768]⟩
abbrev S768x3 : Shape := ⟨2, ![768, 3]⟩
abbrev S3 : Shape := ⟨1, ![3]⟩
abbrev S3x768x8 : Shape := ⟨3, ![3, 768, 8]⟩
abbrev S3x8 : Shape := ⟨2, ![3, 8]⟩
abbrev S3x8x768x3072 : Shape := ⟨4, ![3, 8, 768, 3072]⟩
abbrev S3x8x3072 : Shape := ⟨3, ![3, 8, 3072]⟩
abbrev S3x8x3072x768 : Shape := ⟨4, ![3, 8, 3072, 768]⟩
abbrev S3x8x768 : Shape := ⟨3, ![3, 8, 768]⟩
abbrev S2048x3 : Shape := ⟨2, ![2048, 3]⟩
abbrev S1x3 : Shape := ⟨2, ![1, 3]⟩
abbrev S_ : Shape := ⟨0, ![]⟩
abbrev S2048 : Shape := ⟨1, ![2048]⟩
abbrev S2048x1 : Shape := ⟨2, ![2048, 1]⟩
abbrev S2048x3x8 : Shape := ⟨3, ![2048, 3, 8]⟩
abbrev S1x3x8 : Shape := ⟨3, ![1, 3, 8]⟩
abbrev S2048x3x1 : Shape := ⟨3, ![2048, 3, 1]⟩
abbrev S2048x3x8x3072 : Shape := ⟨4, ![2048, 3, 8, 3072]⟩
abbrev S1x3x8x3072 : Shape := ⟨4, ![1, 3, 8, 3072]⟩
abbrev S3x8x768x2048 : Shape := ⟨4, ![3, 8, 768, 2048]⟩
abbrev S2048x3x8x768 : Shape := ⟨4, ![2048, 3, 8, 768]⟩
abbrev S1x3x8x768 : Shape := ⟨4, ![1, 3, 8, 768]⟩

abbrev nBuf : Space → Nat
  | .hbm => 73
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x3, .f32⟩
  | .hbm, ⟨2, _⟩ => ⟨S3, .f32⟩
  | .hbm, ⟨3, _⟩ => ⟨S3x768x8, .f32⟩
  | .hbm, ⟨4, _⟩ => ⟨S3x8, .f32⟩
  | .hbm, ⟨5, _⟩ => ⟨S3x8x768x3072, .f32⟩
  | .hbm, ⟨6, _⟩ => ⟨S3x8x3072, .f32⟩
  | .hbm, ⟨7, _⟩ => ⟨S3x8x3072x768, .f32⟩
  | .hbm, ⟨8, _⟩ => ⟨S3x8x768, .f32⟩
  | .hbm, ⟨9, _⟩ => ⟨S2048x3, .f32⟩
  | .hbm, ⟨10, _⟩ => ⟨S1x3, .f32⟩
  | .hbm, ⟨11, _⟩ => ⟨S2048x3, .f32⟩
  | .hbm, ⟨12, _⟩ => ⟨S2048x3, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048x1, .f32⟩
  | .hbm, ⟨19, _⟩ => ⟨S2048x3, .f32⟩
  | .hbm, ⟨20, _⟩ => ⟨S2048x3, .f32⟩
  | .hbm, ⟨21, _⟩ => ⟨S2048x3, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x3, .f32⟩
  | .hbm, ⟨26, _⟩ => ⟨S2048x3, .f32⟩
  | .hbm, ⟨27, _⟩ => ⟨S2048x3x8, .f32⟩
  | .hbm, ⟨28, _⟩ => ⟨S1x3x8, .f32⟩
  | .hbm, ⟨29, _⟩ => ⟨S2048x3x8, .f32⟩
  | .hbm, ⟨30, _⟩ => ⟨S2048x3x8, .f32⟩
  | .hbm, ⟨31, _⟩ => ⟨S_, .f32⟩
  | .hbm, ⟨32, _⟩ => ⟨S2048x3x8, .f32⟩
  | .hbm, ⟨33, _⟩ => ⟨S2048x3x8, .f32⟩
  | .hbm, ⟨34, _⟩ => ⟨S_, .f32⟩
  | .hbm, ⟨35, _⟩ => ⟨S2048x3, .f32⟩
  | .hbm, ⟨36, _⟩ => ⟨S_, .f32⟩
  | .hbm, ⟨37, _⟩ => ⟨S2048x3, .f32⟩
  | .hbm, ⟨38, _⟩ => ⟨S2048x3, .f32⟩
  | .hbm, ⟨39, _⟩ => ⟨S2048x3x1, .f32⟩
  | .hbm, ⟨40, _⟩ => ⟨S2048x3x8, .f32⟩
  | .hbm, ⟨41, _⟩ => ⟨S2048x3x8, .f32⟩
  | .hbm, ⟨42, _⟩ => ⟨S2048x3x8, .f32⟩
  | .hbm, ⟨43, _⟩ => ⟨S_, .f32⟩
  | .hbm, ⟨44, _⟩ => ⟨S2048x3, .f32⟩
  | .hbm, ⟨45, _⟩ => ⟨S2048x3x1, .f32⟩
  | .hbm, ⟨46, _⟩ => ⟨S2048x3x8, .f32⟩
  | .hbm, ⟨47, _⟩ => ⟨S2048x3x8, .f32⟩
  | .hbm, ⟨48, _⟩ => ⟨S2048x3x8x3072, .f32⟩
  | .hbm, ⟨49, _⟩ => ⟨S1x3x8x3072, .f32⟩
  | .hbm, ⟨50, _⟩ => ⟨S2048x3x8x3072, .f32⟩
  | .hbm, ⟨51, _⟩ => ⟨S2048x3x8x3072, .f32⟩
  | .hbm, ⟨52, _⟩ => ⟨S_, .f32⟩
  | .hbm, ⟨53, _⟩ => ⟨S2048x3x8x3072, .f32⟩
  | .hbm, ⟨54, _⟩ => ⟨S2048x3x8x3072, .f32⟩
  | .hbm, ⟨55, _⟩ => ⟨S_, .f32⟩
  | .hbm, ⟨56, _⟩ => ⟨S_, .f32⟩
  | .hbm, ⟨57, _⟩ => ⟨S2048x3x8x3072, .f32⟩
  | .hbm, ⟨58, _⟩ => ⟨S2048x3x8x3072, .f32⟩
  | .hbm, ⟨59, _⟩ => ⟨S2048x3x8x3072, .f32⟩
  | .hbm, ⟨60, _⟩ => ⟨S_, .f32⟩
  | .hbm, ⟨61, _⟩ => ⟨S2048x3x8x3072, .f32⟩
  | .hbm, ⟨62, _⟩ => ⟨S2048x3x8x3072, .f32⟩
  | .hbm, ⟨63, _⟩ => ⟨S2048x3x8x3072, .f32⟩
  | .hbm, ⟨64, _⟩ => ⟨S3x8x768x2048, .f32⟩
  | .hbm, ⟨65, _⟩ => ⟨S2048x3x8x768, .f32⟩
  | .hbm, ⟨66, _⟩ => ⟨S1x3x8x768, .f32⟩
  | .hbm, ⟨67, _⟩ => ⟨S2048x3x8x768, .f32⟩
  | .hbm, ⟨68, _⟩ => ⟨S2048x3x8x768, .f32⟩
  | .hbm, ⟨69, _⟩ => ⟨S2048x3x1, .f32⟩
  | .hbm, ⟨70, _⟩ => ⟨S2048x3x8, .f32⟩
  | .hbm, ⟨71, _⟩ => ⟨S2048x3x8, .f32⟩
  | .hbm, ⟨72, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.Moe.lean ====
/-
  The mathematics of the mixture, on extended reals: a softmax of real scores has real values that are not negative; a real
  weight that is not negative multiplies through a sum of arbitrary extended reals; and the kernel's gated activation, the
  weight folded into it before the second matrix, is the weight times the reference's activation.
-/
module

public import Idealize.ShloMosaic.PureOps.Ideal

@[expose] public section

noncomputable section

namespace Cert.Moe

open Idealize.ShloMosaic

/-! ### Real values -/

/-- An extended real that is a real number. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.sub {x y : EReal} (hx : Real' x) (hy : Real' y) : Real' (x - y) := by
  obtain ⟨a, rfl⟩ := hx; obtain ⟨b, rfl⟩ := hy; exact ⟨a - b, (EReal.coe_sub a b).symm⟩

theorem Real'.sum {ι : Type} (s : Finset ι) (f : ι → EReal) (h : ∀ i, Real' (f i)) : Real' (∑ i ∈ s, f i) := by
  choose g hg using h
  refine ⟨∑ i ∈ s, g i, ?_⟩
  induction s using Finset.cons_induction with
  | empty => simp
  | cons a s ha ih => rw [Finset.sum_cons, Finset.sum_cons, ih, hg a, EReal.coe_add]

theorem real_of_ne {x : EReal} (h1 : x ≠ ⊤) (h2 : x ≠ ⊥) : Real' x := ⟨x.toReal, (EReal.coe_toReal h1 h2).symm⟩

/-! ### Softmax -/

/-- The largest of finitely many scores. -/
def top {n : ℕ} (l : Fin n → EReal) : EReal := Finset.univ.fold max ⊥ l

/-- The softmax of finitely many scores, the largest subtracted first. -/
def softmax {n : ℕ} (l : Fin n → EReal) (j : Fin n) : EReal :=
  Ideal.div (Ideal.exp (l j - top l)) (∑ k, Ideal.exp (l k - top l))

theorem top_real {n : ℕ} (l : Fin n → EReal) (hl : ∀ j, Real' (l j)) (j : Fin n) : Real' (top l) := by
  refine real_of_ne (ne_of_lt ?_) (ne_of_gt ?_)
  · refine (Finset.fold_max_lt _).mpr ⟨bot_lt_top, fun k _ => ?_⟩
    obtain ⟨r, hr⟩ := hl k; rw [hr]; exact EReal.coe_lt_top r
  · refine (Finset.lt_fold_max _).mpr (.inr ⟨j, Finset.mem_univ j, ?_⟩)
    obtain ⟨r, hr⟩ := hl j; rw [hr]; exact EReal.bot_lt_coe r

/-- A softmax of real scores is a real number, not negative. -/
theorem softmax_real {n : ℕ} (l : Fin n → EReal) (hl : ∀ j, Real' (l j)) (j : Fin n) :
    ∃ r : ℝ, 0 ≤ r ∧ softmax l j = (r : EReal) := by
  obtain ⟨M, hM⟩ := top_real l hl j
  choose a ha using hl
  have he : ∀ k, Ideal.exp (l k - top l) = ((Real.exp (a k - M) : ℝ) : EReal) := fun k => by
    rw [hM, ha k, ← EReal.coe_sub, Ideal.exp_coe]
  have hs : ∑ k, Ideal.exp (l k - top l) = ((∑ k, Real.exp (a k - M) : ℝ) : EReal) := by
    simp only [he]
    exact (map_sum (⟨⟨Real.toEReal, EReal.coe_zero⟩, EReal.coe_add⟩ : ℝ →+ EReal) _ _).symm
  have hpos : 0 < ∑ k, Real.exp (a k - M) :=
    Finset.sum_pos (fun k _ => Real.exp_pos _) ⟨j, Finset.mem_univ j⟩
  refine ⟨Real.exp (a j - M) * (1 / ∑ k, Real.exp (a k - M)), by positivity, ?_⟩
  unfold softmax
  rw [hs, he, Ideal.div_coe hpos.ne', EReal.coe_mul]

/-! ### The weight through a sum -/

theorem mul_sum {ι : Type} (s : Finset ι) (f : ι → EReal) (r : ℝ) (hr : 0 ≤ r) :
    (r : EReal) * ∑ i ∈ s, f i = ∑ i ∈ s, (r : EReal) * f i := by
  induction s using Finset.cons_induction with
  | empty => simp
  | cons a s ha ih =>
    rw [Finset.sum_cons, Finset.sum_cons,
      EReal.left_distrib_of_nonneg_of_ne_top (EReal.coe_nonneg.mpr hr) (EReal.coe_ne_top r), ih]

/-! ### The activation -/

/-- The constant 1/√2. -/
def inv : EReal := (((Real.sqrt 2)⁻¹ : ℝ) : EReal)

/-- The kernel's gated activation: `s·w + (s·w)·erf (s/√2)`. -/
def gated (s w : EReal) : EReal := s * w + s * w * Ideal.erf (s * inv)

/-- The reference's activation: `½·s·(1 + erf (s / √2))`. -/
def gelu (s : EReal) : EReal :=
  ((1 / 2 : ℝ) : EReal) * s * (((1 : ℝ) : EReal) + Ideal.erf (Ideal.div s ((Real.sqrt 2 : ℝ) : EReal)))

theorem gated_eq (s : EReal) (hs : Real' s) (r : ℝ) :
    gated s ((r : EReal) * ((1 / 2 : ℝ) : EReal)) = (r : EReal) * gelu s := by
  obtain ⟨a, rfl⟩ := hs
  have h2 : Real.sqrt 2 ≠ 0 := by positivity
  have hd : Ideal.div (a : EReal) ((Real.sqrt 2 : ℝ) : EReal) = (a : EReal) * inv := by
    rw [Ideal.div_coe h2, one_div]; rfl
  obtain ⟨b, hb⟩ : ∃ b : ℝ, Ideal.erf ((a : EReal) * inv) = (b : EReal) := by
    unfold inv; rw [← EReal.coe_mul, Ideal.erf_coe]; exact ⟨_, rfl⟩
  unfold gated gelu
  rw [hd, hb]
  norm_cast
  ring

/-! ### One token -/

/-- A token's scores: its row against a matrix, plus a bias. -/
def logit {n : ℕ} (x : Fin 768 → EReal) (W : Fin 768 → Fin n → EReal) (b : Fin n → EReal) (j : Fin n) : EReal :=
  (∑ p, x p * W p j) + b j

theorem logit_real {n : ℕ} (x : Fin 768 → EReal) (W : Fin 768 → Fin n → EReal) (b : Fin n → EReal)
    (hx : ∀ p, Real' (x p)) (hW : ∀ p j, Real' (W p j)) (hb : ∀ j, Real' (b j)) (j : Fin n) : Real' (logit x W b j) :=
  (Real'.sum _ _ fun p => (hx p).mul (hW p j)).add (hb j)

/-- An expert's contribution to an element of the output, its weight folded into the activations. -/
def contrib (x : Fin 768 → EReal) (W1 : Fin 768 → Fin 3072 → EReal) (B : Fin 3072 → EReal) (W2 : Fin 3072 → EReal) (w : EReal) :
    EReal := ∑ f, gated (logit x W1 B f) w * W2 f

/-- An expert's output at an element, unweighted. -/
def expert (x : Fin 768 → EReal) (W1 : Fin 768 → Fin 3072 → EReal) (B : Fin 3072 → EReal) (W2 : Fin 3072 → EReal) (b2 : EReal) :
    EReal := (∑ f, W2 f * gelu (logit x W1 B f)) + b2

/-- With half the weight folded in, the contribution and the weighted bias make the weighted output. -/
theorem contrib_eq (x : Fin 768 → EReal) (W1 : Fin 768 → Fin 3072 → EReal) (B : Fin 3072 → EReal) (W2 : Fin 3072 → EReal) (b2 : EReal)
    (hx : ∀ p, Real' (x p)) (hW : ∀ p f, Real' (W1 p f)) (hB : ∀ f, Real' (B f)) (r : ℝ) (hr : 0 ≤ r) :
    (r : EReal) * b2 + contrib x W1 B W2 ((r : EReal) * ((1 / 2 : ℝ) : EReal)) = expert x W1 B W2 b2 * (r : EReal) := by
  unfold contrib expert
  rw [mul_comm _ (r : EReal), EReal.left_distrib_of_nonneg_of_ne_top (EReal.coe_nonneg.mpr hr) (EReal.coe_ne_top r), mul_sum _ _ _ hr,
    add_comm]
  congr 1
  refine Finset.sum_congr rfl fun f _ => ?_
  rw [gated_eq _ (logit_real x W1 B hx hW hB f), mul_comm (W2 f), mul_assoc]

end Cert.Moe

end
-- ==== Proof.Consts.lean ====
/-
  The float constants the two programs spell, as the extended reals their bit patterns denote: minus infinity, one half and
  two. This module states them once, and the others read them here.
-/
module

public import Idealize.ShloMosaic.PureOps.Ideal

@[expose] public section

noncomputable section

namespace Cert.Consts

open Idealize.ShloMosaic

theorem negInf : Ideal.ofBits .f32 0xFF800000#32 = (⊥ : EReal) := by
  simp [Ideal.ofBits, Ideal.ieee, -EReal.coe_mul]

theorem posInf : Ideal.ofBits .f32 0x7F800000#32 = (⊤ : EReal) := by
  simp [Ideal.ofBits, Ideal.ieee, -EReal.coe_mul]

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

end Cert.Consts

end
-- ==== Proof.Finite.lean ====
/- The precondition read back: every element of the seven arrays it names is a real number. -/
module

public import proofs.«01_k».proof.Defs
public import proofs.«01_k».proof.Proof.Gen.Pre_finite
public import proofs.«01_k».proof.Proof.Moe
public import proofs.«01_k».proof.Proof.Consts
public import Idealize.ShloMosaic.Lib.ReduceAll

@[expose] public section

set_option maxRecDepth 16384

noncomputable section

namespace Cert.Finite

open Cert.Moe Cert.Pre_finite Idealize.ShloMosaic Idealize.SL.Sem

instance : Subsingleton S_.Idx := ⟨fun _ _ => funext fun a => a.elim0⟩

/-- A value whose magnitude is below infinity is a real number. -/
theorem real_of_lt (x : Ideal .f32)
    (h : FloatOps.cmpf .olt (FloatOps.hostAbsf x) (FloatOps.ofBits (F := Ideal) .f32 0x7F800000#32) = 1#1) : Real' (x : EReal) := by
  have h' : Ideal.cmp .olt (max (x : EReal) (-(x : EReal))) (Ideal.ofBits .f32 0x7F800000#32) = 1#1 := h
  rw [Consts.posInf] at h'
  refine real_of_ne (fun e => ?_) fun e => ?_
  · rw [e] at h'; simp [Ideal.cmp] at h'
  · rw [e] at h'; simp [Ideal.cmp] at h'

/-- An array all of whose magnitudes are below infinity has real elements. -/
theorem real_of_all {s : Shape} {axes : List (Fin s.rank)} (hb : S_.BroadcastsInDim s (![] : Fin 0 → Fin s.rank))
    (hr : s.ReducesTo axes S_) (hs : 0 < S_.numel) (x : FVec Ideal s .f32) (init : IVec S_ 1) (j : S_.Idx)
    (h : Host.reduce IntOp.andi (cmpf .olt (Host.absf x) (broadcastInDim s ![] hb (constant S_ .f32 0x7F800000#32))) init hr hs j = 1#1)
    (i : s.Idx) : Real' (x i : EReal) :=
  real_of_lt (x i) (Host.reduce_andi_all _ init hr hs j h i)

theorem all_real (x0 : FVec Ideal S2048x768 .f32) (x1 : FVec Ideal S768x3 .f32) (x2 : FVec Ideal S3 .f32) (x3 : FVec Ideal S3x768x8 .f32)
    (x4 : FVec Ideal S3x8 .f32) (x5 : FVec Ideal S3x8x768x3072 .f32) (x6 : FVec Ideal S3x8x3072 .f32) (x7 : FVec Ideal S3x8x3072x768 .f32)
    (x8 : FVec Ideal S3x8x768 .f32) (j : S_.Idx) (h : fn (F := Ideal) x0 x1 x2 x3 x4 x5 x6 x7 x8 j = 1#1) :
    (∀ i, Real' (x0 i : EReal)) ∧ (∀ i, Real' (x1 i : EReal)) ∧ (∀ i, Real' (x2 i : EReal)) ∧ (∀ i, Real' (x3 i : EReal))
      ∧ (∀ i, Real' (x4 i : EReal)) ∧ (∀ i, Real' (x5 i : EReal)) ∧ (∀ i, Real' (x6 i : EReal)) := by
  unfold fn fn_part1 fn_part2 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨_, h0⟩ := IntOp.andi_eq_one.1 h
  exact ⟨real_of_all _ _ _ x0 _ j h0, real_of_all _ _ _ x1 _ j h1, real_of_all _ _ _ x2 _ j h2, real_of_all _ _ _ x3 _ j h3,
    real_of_all _ _ _ x4 _ j h4, real_of_all _ _ _ x5 _ j h5, real_of_all _ _ _ x6 _ j h6⟩

end Cert.Finite

end
-- ==== Proof.Blocks.lean ====
/- What the kernel's input blocks hold: each block's element as an element of the program's argument arrays. -/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arrays the host hands to the kernel -/

theorem host0 (t : Fin 2048) (p : Fin 768) :
    (V m c main_v0 : Vec Ideal S2048x768 .bf16) (ix2 t p) = (m ((c : Thread nD τ).loc main_arg0) : Vec Ideal S2048x768 .f32) (ix2 t p) := by
  entry_read; pointwise

theorem host1 (p : Fin 768) (j : Fin 3) :
    (V m c main_v1 : Vec Ideal S768x3 .bf16) (ix2 p j) = (m ((c : Thread nD τ).loc main_arg1) : Vec Ideal S768x3 .f32) (ix2 p j) := by
  entry_read; pointwise

theorem host2 (j : Fin 3) :
    (V m c main_v5 : Vec Ideal S1x3 .f32) (ix2 0 j) = (m ((c : Thread nD τ).loc main_arg2) : Vec Ideal S3 .f32) (ix1 j) := by
  entry_read; pointwise

theorem host3 (p : Fin 768) (g : Fin 3) (j : Fin 8) :
    (V m c main_v4 : Vec Ideal S768x24 .bf16) (ix2 p ⟨g * 8 + j, by omega⟩)
      = (m ((c : Thread nD τ).loc main_arg3) : Vec Ideal S3x768x8 .f32) (ix3 g p j) := by
  have hg : ((g : ℕ) * 8 + j) / 8 = g := by omega
  have hj : ((g : ℕ) * 8 + j) % 8 = j := by omega
  entry_read; pointwise [hg, hj]

theorem host4 (g : Fin 3) (j : Fin 8) :
    (V m c main_v6 : Vec Ideal S1x24 .f32) (ix2 0 ⟨g * 8 + j, by omega⟩)
      = (m ((c : Thread nD τ).loc main_arg4) : Vec Ideal S3x8 .f32) (ix2 g j) := by
  entry_read; pointwise

theorem host5 (g : Fin 3) (j : Fin 8) (d : Fin 768) :
    (V m c main_v10 : Vec Ideal S24x768 .f32) (ix2 ⟨g * 8 + j, by omega⟩ d)
      = (m ((c : Thread nD τ).loc main_arg8) : Vec Ideal S3x8x768 .f32) (ix3 g j d) := by
  entry_read; pointwise

theorem host6 (g : Fin 3) (j : Fin 8) (p : Fin 768) (f : Fin 3072) :
    (V m c main_v7 : Vec Ideal S24x768x3072 .f32) (ix3 ⟨g * 8 + j, by omega⟩ p f)
      = (m ((c : Thread nD τ).loc main_arg5) : Vec Ideal S3x8x768x3072 .f32) (ix4 g j p f) := by
  entry_read; pointwise

theorem host7 (g : Fin 3) (j : Fin 8) (f : Fin 3072) :
    (V m c main_v8 : Vec Ideal S24x1x3072 .f32) (ix3 ⟨g * 8 + j, by omega⟩ 0 f)
      = (m ((c : Thread nD τ).loc main_arg6) : Vec Ideal S3x8x3072 .f32) (ix3 g j f) := by
  entry_read; pointwise

theorem host8 (g : Fin 3) (j : Fin 8) (f : Fin 3072) (d : Fin 768) :
    (V m c main_v9 : Vec Ideal S24x3072x768 .f32) (ix3 ⟨g * 8 + j, by omega⟩ f d)
      = (m ((c : Thread nD τ).loc main_arg7) : Vec Ideal S3x8x3072x768 .f32) (ix4 g j f d) := by
  entry_read; pointwise

/-! ## The blocks of the grid points -/

/-- The block indices over the grid: six whole arrays and three that follow the point. -/
theorem index : ∀ t : Fin cfg0.N, (win0_0.index t = ![0, 0] ∧ win0_1.index t = ![0, 0] ∧ win0_2.index t = ![0, 0]
    ∧ win0_3.index t = ![0, 0] ∧ win0_4.index t = ![0, 0] ∧ win0_5.index t = ![0, 0]) ∧ win0_6.index t = ![t.val, 0, 0]
    ∧ win0_7.index t = ![t.val, 0, 0] ∧ win0_8.index t = ![t.val, 0, 0] :=
  (by decide +kernel : ∀ t : Fin grid0.N, _)

theorem block0 (t : Fin cfg0.N) : iblk m c 0 t = V m c main_v0 := by
  blk_ext! [iblk, index t]

theorem block1 (t : Fin cfg0.N) : iblk m c 1 t = V m c main_v1 := by
  blk_ext! [iblk, index t]

theorem block2 (t : Fin cfg0.N) : iblk m c 2 t = V m c main_v5 := by
  blk_ext! [iblk, index t]

theorem block3 (t : Fin cfg0.N) : iblk m c 3 t = V m c main_v4 := by
  blk_ext! [iblk, index t]

theorem block4 (t : Fin cfg0.N) : iblk m c 4 t = V m c main_v6 := by
  blk_ext! [iblk, index t]

theorem block5 (t : Fin cfg0.N) : iblk m c 5 t = V m c main_v10 := by
  blk_ext! [iblk, index t]

theorem block6 (t : Fin cfg0.N) (e : Fin 24) (he : e.val = t.val) (p : Fin 768) (f : Fin 3072) :
    (iblk m c 6 t : Vec Ideal S1x768x3072 .f32) (ix3 0 p f) = (V m c main_v7 : Vec Ideal S24x768x3072 .f32) (ix3 e p f) := by
  blk_ext [iblk, index t]

theorem block7 (t : Fin cfg0.N) (e : Fin 24) (he : e.val = t.val) (f : Fin 3072) :
    (iblk m c 7 t : Vec Ideal S1x1x3072 .f32) (ix3 0 0 f) = (V m c main_v8 : Vec Ideal S24x1x3072 .f32) (ix3 e 0 f) := by
  blk_ext [iblk, index t]

theorem block8 (t : Fin cfg0.N) (e : Fin 24) (he : e.val = t.val) (f : Fin 3072) (d : Fin 768) :
    (iblk m c 8 t : Vec Ideal S1x3072x768 .f32) (ix3 0 f d) = (V m c main_v9 : Vec Ideal S24x3072x768 .f32) (ix3 e f d) := by
  blk_ext [iblk, index t]

/-- The grid's one coordinate is the point's number. -/
theorem coord : ∀ t : Fin cfg0.N, (grid0.coords t 0 : ℕ) = t.val :=
  (by decide +kernel : ∀ t : Fin grid0.N, _)

end Cert.KernelIdeal.Blocks
-- ==== Proof.Halves.lean ====
/-
  Reading back a 2048-row buffer that is stored in two halves of 1024 rows, alternately. A load of a half reads the last
  store into that half, and the contents after the stores are, row by row, the last store into the row's half.
-/
module

public import proofs.«01_k».proof.Proof.Gen.KernelIdeal.Value
public import Idealize.ShloMosaic.Lib.Pipeline.ReadBack
public import Idealize.ShloMosaic.Lib.Pipeline.RowLoads
public import Idealize.ShloMosaic.Lib.Pointwise

@[expose] public section

set_option maxRecDepth 16384

noncomputable section

namespace Cert.KernelIdeal.Halves

open Cert.KernelIdeal Cert.KernelIdeal.Gen Idealize.ShloMosaic Idealize.ShloMosaic.TcCoe Idealize.SL.Sem

variable {Val : EltTy → Type} [∀ e, Nonempty (Val e)] {sg : RefSig} {κ' : Kind} {sp : Space}

/-- The rectangle of the first 1024 rows. -/
abbrev lo : Rect S2048x768 := Rect.unit (s := S2048x768) ![0, 0] S1024x768.size inb_S2048x768_S1024x768_0_0

/-- The rectangle of the last 1024 rows. -/
abbrev hi : Rect S2048x768 := Rect.unit (s := S2048x768) ![1024, 0] S1024x768.size inb_S2048x768_S1024x768_1024_0

/-- A load of the first half after a store into the second, after a store into the first, reads the first store. -/
theorem load_lo (v : View sg κ' sp S2048x768 .f32) (q : lo.shape.Idx → Val .f32) (p : hi.shape.Idx → Val .f32)
    (L : List (View.Piece Val S2048x768 .f32)) :
    v.readCov ((⟨hi, p⟩ : View.Piece Val S2048x768 .f32) :: ⟨lo, q⟩ :: L) lo.toLoadRect = q :=
  (View.readCov_cons_of_rows_disjoint (m := 2048) (n := 768) (k := 1024) (k' := 1024) v 1024 0 (.inr (by decide)) p _ _ _).trans
    (View.readCov_cons_toLoadRect v lo q L)

/-- A load of the second half after a store into the first, after a store into the second, reads that store. -/
theorem load_hi (v : View sg κ' sp S2048x768 .f32) (q : lo.shape.Idx → Val .f32) (p : hi.shape.Idx → Val .f32)
    (L : List (View.Piece Val S2048x768 .f32)) :
    v.readCov ((⟨lo, q⟩ : View.Piece Val S2048x768 .f32) :: ⟨hi, p⟩ :: L) hi.toLoadRect = p :=
  (View.readCov_cons_of_rows_disjoint (m := 2048) (n := 768) (k := 1024) (k' := 1024) v 0 1024 (.inl (by decide)) q _ _ _).trans
    (View.readCov_cons_toLoadRect v hi p L)

/-- A load of the second half after a store into the first reads what was there before. -/
theorem load_hi_skip (v : View sg κ' sp S2048x768 .f32) (q : lo.shape.Idx → Val .f32)
    (L : List (View.Piece Val S2048x768 .f32)) :
    v.readCov ((⟨lo, q⟩ : View.Piece Val S2048x768 .f32) :: L) hi.toLoadRect = v.readCov L hi.toLoadRect :=
  View.readCov_cons_of_rows_disjoint (m := 2048) (n := 768) (k := 1024) (k' := 1024) v 0 1024 (.inl (by decide)) q _ _ _

variable {m n k : ℕ}

/-- An index of the `k` rows from row `o` is the index of the row `o` further down. -/
theorem emb_rows (o : ℕ) (inb : ∀ x, (![o, 0] : Fin 2 → ℕ) x + (⟨2, ![k, n]⟩ : Shape).size x ≤ (⟨2, ![m, n]⟩ : Shape).size x)
    (i : Fin m) (r : Fin k) (d : Fin n) (h : (i : ℕ) = o + r) :
    (ix2 i d : (⟨2, ![m, n]⟩ : Shape).Idx)
      = (Rect.unit (s := (⟨2, ![m, n]⟩ : Shape)) ![o, 0] (⟨2, ![k, n]⟩ : Shape).size inb).emb (ix2 r d) := by
  funext a; apply Fin.ext
  fin_cases a
  · show (i : ℕ) = o + 1 * (r : ℕ); omega
  · show (d : ℕ) = 0 + 1 * (d : ℕ); omega

/-- A row above row `o` is not among the `k` rows from row `o`. -/
theorem not_mem_rows (o : ℕ) (inb : ∀ x, (![o, 0] : Fin 2 → ℕ) x + (⟨2, ![k, n]⟩ : Shape).size x ≤ (⟨2, ![m, n]⟩ : Shape).size x)
    (i : Fin m) (d : Fin n) (h : (i : ℕ) < o) :
    (ix2 i d : (⟨2, ![m, n]⟩ : Shape).Idx)
      ∉ (Rect.unit (s := (⟨2, ![m, n]⟩ : Shape)) ![o, 0] (⟨2, ![k, n]⟩ : Shape).size inb).set := by
  rw [Rect.mem_set_unit]
  intro hh
  have h' : o ≤ (i : ℕ) := (hh 0).1
  omega

/-- In the first half, the contents are the last store into it. -/
theorem left_lo (q : lo.shape.Idx → Val .f32) (p : hi.shape.Idx → Val .f32) (L : List (View.Piece Val S2048x768 .f32))
    (i : Fin 2048) (r : Fin 1024) (d : Fin 768) (h : (i : ℕ) = r) :
    View.canon ((⟨hi, p⟩ : View.Piece Val S2048x768 .f32) :: ⟨lo, q⟩ :: L) (ix2 i d) = q (ix2 r d) := by
  have hn : (ix2 i d : S2048x768.Idx) ∉ hi.set :=
    not_mem_rows (k := 1024) 1024 inb_S2048x768_S1024x768_1024_0 i d (by omega)
  have he : (ix2 i d : S2048x768.Idx) = lo.emb (ix2 r d) := emb_rows 0 inb_S2048x768_S1024x768_0_0 i r d (by omega)
  refine (View.canon_cons_of_not_mem (⟨hi, p⟩ : View.Piece Val S2048x768 .f32) (⟨lo, q⟩ :: L) hn).trans ?_
  rw [he]
  exact View.canon_cons_emb lo q L (ix2 r d)

/-- In the second half likewise. -/
theorem left_hi (p : hi.shape.Idx → Val .f32) (L : List (View.Piece Val S2048x768 .f32))
    (i : Fin 2048) (r : Fin 1024) (d : Fin 768) (h : (i : ℕ) = 1024 + r) :
    View.canon ((⟨hi, p⟩ : View.Piece Val S2048x768 .f32) :: L) (ix2 i d) = p (ix2 r d) := by
  have he : (ix2 i d : S2048x768.Idx) = hi.emb (ix2 r d) := emb_rows 1024 inb_S2048x768_S1024x768_1024_0 i r d (by omega)
  rw [he]
  exact View.canon_cons_emb hi p L (ix2 r d)

end Cert.KernelIdeal.Halves

end
-- ==== Proof.Chunk.lean ====
/-
  What one point of the kernel computes, element by element: the hidden activations of 1024 columns, weighted by the
  token's weight for the point's expert, contracted with 1024 rows of the second matrix and added to what was there.
  The six chunks of a point (three of the columns by two of the rows) have one value, `upd`.
-/
module

public import proofs.«01_k».proof.Proof.Gen.KernelIdeal.Value
public import proofs.«01_k».proof.Proof.Moe
public import Idealize.ShloMosaic.Lib.Pointwise

@[expose] public section

set_option maxRecDepth 16384

noncomputable section

namespace Cert.KernelIdeal.Chunk

open Cert.Moe Cert.KernelIdeal Cert.KernelIdeal.Gen Idealize.ShloMosaic Idealize.ShloMosaic.TcCoe Idealize.SL.Sem

theorem named_inv : (Named.named (F := Ideal) κ "inv_sqrt2" (φ := .bf16) 0x3F35#16 : EReal) = inv :=
  IdealRules.named_const.ideal_named_scalar _ _ _ _ rfl

/-- One chunk's value at an element: what was there, plus the weighted activations against the second matrix. -/
def upd (x : Fin 768 → EReal) (W1 : Fin 768 → Fin 1024 → EReal) (B : Fin 1024 → EReal) (W2 : Fin 1024 → EReal) (w acc : EReal) :
    EReal :=
  acc + ∑ f, gated (logit x W1 B f) w * W2 f

/-- Three chunks one after another add an expert's whole contribution. -/
theorem upd3 (x : Fin 768 → EReal) (W1 : Fin 768 → Fin 3072 → EReal) (B : Fin 3072 → EReal) (W2 : Fin 3072 → EReal) (w acc : EReal) :
    upd x (fun p f => W1 p ⟨2048 + f, by omega⟩) (fun f => B ⟨2048 + f, by omega⟩) (fun f => W2 ⟨2048 + f, by omega⟩) w
      (upd x (fun p f => W1 p ⟨1024 + f, by omega⟩) (fun f => B ⟨1024 + f, by omega⟩) (fun f => W2 ⟨1024 + f, by omega⟩) w
        (upd x (fun p f => W1 p ⟨f, by omega⟩) (fun f => B ⟨f, by omega⟩) (fun f => W2 ⟨f, by omega⟩) w acc))
      = acc + contrib x W1 B W2 w := by
  have h : contrib x W1 B W2 w = ∑ j : Fin 3, ∑ f : Fin 1024, gated (logit x W1 B ⟨j * 1024 + f, by omega⟩) w * W2 ⟨j * 1024 + f, by omega⟩ :=
    Fin.sum_univ_tiles 3 1024 rfl (fun f : Fin 3072 => gated (logit x W1 B f) w * W2 f)
  rw [h, Fin.sum_univ_three]
  unfold upd logit
  simp only [Fin.val_zero, Fin.val_one, Fin.val_two, Nat.zero_mul, Nat.one_mul, Nat.zero_add, add_assoc]

variable (i : grid0.Coords) (w : FVec Ideal S2048x1 .bf16) (xs : Vec Ideal S2048x24 .bf16) (W1 : Vec Ideal S1x768x1024 .f32) (B : Vec Ideal S1x1x1024 .f32)
  (W2 : Vec Ideal S1x1024x768 .f32) (x : Vec Ideal S1024x768 .bf16) (acc : Vec Ideal S1024x768 .f32) (r : Fin 1024) (d : Fin 768)

theorem chunk_lo0 :
    k0_pay15 (k0_pay12 W2) (k0_pay14 i xs W1 B x) acc (ix2 r d)
      = upd (fun p => x (ix2 r p)) (fun p f => W1 (ix3 0 p f)) (fun f => B (ix3 0 0 f)) (fun f => W2 (ix3 0 f d))
          (k0_pay10 i xs (ix2 (⟨r, by omega⟩ : Fin 2048) 0)) (acc (ix2 r d)) := by
  unfold upd gated logit
  rw [← named_inv]
  pointwise [k0_pay15, k0_pay12, k0_pay14, k0_pay11, k0_pay13]
  rfl

theorem chunk_hi0 :
    k0_pay16 w (k0_pay11 W1) (k0_pay12 W2) (k0_pay13 B) x acc (ix2 r d)
      = upd (fun p => x (ix2 r p)) (fun p f => W1 (ix3 0 p f)) (fun f => B (ix3 0 0 f)) (fun f => W2 (ix3 0 f d))
          (w (ix2 (⟨1024 + r, by omega⟩ : Fin 2048) 0)) (acc (ix2 r d)) := by
  unfold upd gated logit
  rw [← named_inv]
  pointwise [k0_pay16, k0_pay12, k0_pay11, k0_pay13]
  rfl

theorem chunk_lo1 :
    k0_pay21 w (k0_pay17 W1) (k0_pay18 W2) (k0_pay19 B) (k0_pay20 x) (constant S1024x1024 .f32 0x00000000#32) acc (ix2 r d)
      = upd (fun p => x (ix2 r p)) (fun p f => W1 (ix3 0 p f)) (fun f => B (ix3 0 0 f)) (fun f => W2 (ix3 0 f d))
          (w (ix2 (⟨r, by omega⟩ : Fin 2048) 0)) (acc (ix2 r d)) := by
  unfold upd gated logit
  rw [← named_inv]
  pointwise [k0_pay21, k0_pay17, k0_pay18, k0_pay19, k0_pay20]
  rfl

theorem chunk_hi1 :
    k0_pay22 w (k0_pay17 W1) (k0_pay18 W2) (k0_pay19 B) x acc (ix2 r d)
      = upd (fun p => x (ix2 r p)) (fun p f => W1 (ix3 0 p f)) (fun f => B (ix3 0 0 f)) (fun f => W2 (ix3 0 f d))
          (w (ix2 (⟨1024 + r, by omega⟩ : Fin 2048) 0)) (acc (ix2 r d)) := by
  unfold upd gated logit
  rw [← named_inv]
  pointwise [k0_pay22, k0_pay17, k0_pay18, k0_pay19]
  rfl

theorem chunk_lo2 :
    k0_pay26 w (k0_pay23 W1) W2 B x acc (ix2 r d)
      = upd (fun p => x (ix2 r p)) (fun p f => W1 (ix3 0 p f)) (fun f => B (ix3 0 0 f)) (fun f => W2 (ix3 0 f d))
          (w (ix2 (⟨r, by omega⟩ : Fin 2048) 0)) (acc (ix2 r d)) := by
  unfold upd gated logit
  rw [← named_inv]
  pointwise [k0_pay26, k0_pay23, k0_pay24, k0_pay25]
  rfl

theorem chunk_hi2 :
    k0_pay1 (k0_pay24 W2) (k0_pay27 w (k0_pay23 W1) B x) acc (ix2 r d)
      = upd (fun p => x (ix2 r p)) (fun p f => W1 (ix3 0 p f)) (fun f => B (ix3 0 0 f)) (fun f => W2 (ix3 0 f d))
          (w (ix2 (⟨1024 + r, by omega⟩ : Fin 2048) 0)) (acc (ix2 r d)) := by
  unfold upd gated logit
  rw [← named_inv]
  pointwise [k0_pay1, k0_pay27, k0_pay23, k0_pay24, k0_pay25]
  rfl

/-- The weight a point selects: of the token's row, the entry of the point's expert. -/
theorem weight (t : Fin 2048) (e : Fin 24) (he : (i 0 : ℕ) = e) : k0_pay10 i xs (ix2 t 0) = xs (ix2 t e) := by
  pointwise [k0_pay10]
  rw [Finset.sum_eq_single e]
  · simp [Scalar.select, IntOp.cmpi, he]
  · intro c _ hc
    have hne : (BitVec.ofNat 32 (c : ℕ) == BitVec.ofNat 32 ((i 0 : Fin _) : ℕ)) = false := by
      rw [beq_eq_false_iff_ne, he]
      intro h
      have h' := congrArg BitVec.toNat h
      simp only [BitVec.toNat_ofNat] at h'
      apply hc; apply Fin.ext; omega
    simp [Scalar.select, IntOp.cmpi, hne]
  · intro h; exact absurd (Finset.mem_univ e) h

end Cert.KernelIdeal.Chunk

end
-- ==== Proof.PointA.lean ====
/-
  What the first point leaves: the scratch holds the halved weights, and the output block the weighted second biases plus
  the first expert's contribution.
-/
module

public import proofs.«01_k».proof.Proof.Halves
public import proofs.«01_k».proof.Proof.Chunk
public import Idealize.ShloMosaic.Lib.Pipeline.ValueKit.Basic

@[expose] public section

set_option maxRecDepth 16384

noncomputable section

namespace Cert.KernelIdeal.Point

open Cert.Moe Cert.KernelIdeal Cert.KernelIdeal.Gen Idealize.ShloMosaic Idealize.ShloMosaic.TcCoe Idealize.SL.Sem
open Cert.KernelIdeal.Halves Cert.KernelIdeal.Chunk

section reads

variable (c : Dev nD) (arg1 : Memref sig .tc .vmem S2048x768 .bf16) (harg1 : arg1.IsWhole) (arg2 : Memref sig .tc .vmem S768x3 .bf16) (harg2 : arg2.IsWhole) (arg3 : Memref sig .tc .vmem S1x3 .f32) (harg3 : arg3.IsWhole) (arg4 : Memref sig .tc .vmem S768x24 .bf16) (harg4 : arg4.IsWhole) (arg5 : Memref sig .tc .vmem S1x24 .f32) (harg5 : arg5.IsWhole)
  (x0 : Vec Ideal S2048x768 .bf16) (x1 : Vec Ideal S768x3 .bf16) (x2 : Vec Ideal S1x3 .f32) (x3 : Vec Ideal S768x24 .bf16) (x4 : Vec Ideal S1x24 .f32)

theorem v171_eq : kernelRun0_A.sl.v171 (F := Ideal) c arg1 harg1 arg2 harg2 arg3 harg3 x0 x1 x2 = k0_pay3 x0 x1 x2 := by
  have h : kernelRun0_A.sl.v171 (F := Ideal) c arg1 harg1 arg2 harg2 arg3 harg3 x0 x1 x2 = k0_pay3 (arg1.view.readAt (Elt Ideal) (Rect.unit (s := S2048x768) ![0, 0] S2048x768.size inb_S2048x768_S2048x768_0_0).toLoadRect (harg1.unread x0)) (arg2.view.readAt (Elt Ideal) (Rect.unit (s := S768x3) ![0, 0] S768x3.size inb_S768x3_S768x3_0_0).toLoadRect (harg2.unread x1)) (arg3.view.readAt (Elt Ideal) (Rect.unit (s := S1x3) ![0, 0] S1x3.size inb_S1x3_S1x3_0_0).toLoadRect (harg3.unread x2)) := rfl
  rw [h]
  simp only [View.readAt_eq_ld, harg1.read_unread, harg2.read_unread, harg3.read_unread]
  rw [View.ld_unit_lit _ _ (by decide), View.ld_unit_lit _ _ (by decide), View.ld_unit_lit _ _ (by decide)]

theorem v178_eq : kernelRun0_A.sl.v178 (F := Ideal) c arg1 harg1 arg4 harg4 arg5 harg5 x0 x3 x4 = k0_pay4 x0 x3 x4 := by
  have h : kernelRun0_A.sl.v178 (F := Ideal) c arg1 harg1 arg4 harg4 arg5 harg5 x0 x3 x4 = k0_pay4 (arg1.view.readAt (Elt Ideal) (Rect.unit (s := S2048x768) ![0, 0] S2048x768.size inb_S2048x768_S2048x768_0_0).toLoadRect (harg1.unread x0)) (arg4.view.readAt (Elt Ideal) (Rect.unit (s := S768x24) ![0, 0] S768x24.size inb_S768x24_S768x24_0_0).toLoadRect (harg4.unread x3)) (arg5.view.readAt (Elt Ideal) (Rect.unit (s := S1x24) ![0, 0] S1x24.size inb_S1x24_S1x24_0_0).toLoadRect (harg5.unread x4)) := rfl
  rw [h]
  simp only [View.readAt_eq_ld, harg1.read_unread, harg4.read_unread, harg5.read_unread]
  rw [View.ld_unit_lit _ _ (by decide), View.ld_unit_lit _ _ (by decide), View.ld_unit_lit _ _ (by decide)]

theorem v191_eq : kernelRun0_A.sl.v191 (F := Ideal) c arg1 harg1 arg2 harg2 arg3 harg3 arg4 harg4 arg5 harg5 x0 x1 x2 x3 x4 = k0_pay5 x0 x1 x2 x3 x4 := by
  have h : kernelRun0_A.sl.v191 (F := Ideal) c arg1 harg1 arg2 harg2 arg3 harg3 arg4 harg4 arg5 harg5 x0 x1 x2 x3 x4 = k0_pay5 (arg1.view.readAt (Elt Ideal) (Rect.unit (s := S2048x768) ![0, 0] S2048x768.size inb_S2048x768_S2048x768_0_0).toLoadRect (harg1.unread x0)) (arg2.view.readAt (Elt Ideal) (Rect.unit (s := S768x3) ![0, 0] S768x3.size inb_S768x3_S768x3_0_0).toLoadRect (harg2.unread x1)) (arg3.view.readAt (Elt Ideal) (Rect.unit (s := S1x3) ![0, 0] S1x3.size inb_S1x3_S1x3_0_0).toLoadRect (harg3.unread x2)) (arg4.view.readAt (Elt Ideal) (Rect.unit (s := S768x24) ![0, 0] S768x24.size inb_S768x24_S768x24_0_0).toLoadRect (harg4.unread x3)) (arg5.view.readAt (Elt Ideal) (Rect.unit (s := S1x24) ![0, 0] S1x24.size inb_S1x24_S1x24_0_0).toLoadRect (harg5.unread x4)) := rfl
  rw [h]
  simp only [View.readAt_eq_ld, harg1.read_unread, harg2.read_unread, harg3.read_unread, harg4.read_unread, harg5.read_unread]
  rw [View.ld_unit_lit _ _ (by decide), View.ld_unit_lit _ _ (by decide), View.ld_unit_lit _ _ (by decide), View.ld_unit_lit _ _ (by decide), View.ld_unit_lit _ _ (by decide)]

theorem v196_eq : kernelRun0_A.sl.v196 (F := Ideal) c arg1 harg1 arg4 harg4 arg5 harg5 x0 x3 x4 = k0_pay6 x0 x3 x4 := by
  have h : kernelRun0_A.sl.v196 (F := Ideal) c arg1 harg1 arg4 harg4 arg5 harg5 x0 x3 x4 = k0_pay6 (arg1.view.readAt (Elt Ideal) (Rect.unit (s := S2048x768) ![0, 0] S2048x768.size inb_S2048x768_S2048x768_0_0).toLoadRect (harg1.unread x0)) (arg4.view.readAt (Elt Ideal) (Rect.unit (s := S768x24) ![0, 0] S768x24.size inb_S768x24_S768x24_0_0).toLoadRect (harg4.unread x3)) (arg5.view.readAt (Elt Ideal) (Rect.unit (s := S1x24) ![0, 0] S1x24.size inb_S1x24_S1x24_0_0).toLoadRect (harg5.unread x4)) := rfl
  rw [h]
  simp only [View.readAt_eq_ld, harg1.read_unread, harg4.read_unread, harg5.read_unread]
  rw [View.ld_unit_lit _ _ (by decide), View.ld_unit_lit _ _ (by decide), View.ld_unit_lit _ _ (by decide)]

end reads

theorem first_scratch (c : Dev nD) (i : grid0.Coords) (arg1 : Memref sig .tc .vmem S2048x768 .bf16) (harg1 : arg1.IsWhole) (arg2 : Memref sig .tc .vmem S768x3 .bf16) (harg2 : arg2.IsWhole) (arg3 : Memref sig .tc .vmem S1x3 .f32) (harg3 : arg3.IsWhole) (arg4 : Memref sig .tc .vmem S768x24 .bf16) (harg4 : arg4.IsWhole) (arg5 : Memref sig .tc .vmem S1x24 .f32) (harg5 : arg5.IsWhole) (arg6 : Memref sig .tc .vmem S24x768 .f32) (harg6 : arg6.IsWhole) (arg7 : Memref sig .tc .vmem S1x768x3072 .f32) (harg7 : arg7.IsWhole) (arg8 : Memref sig .tc .vmem S1x1x3072 .f32) (harg8 : arg8.IsWhole) (arg9 : Memref sig .tc .vmem S1x3072x768 .f32) (harg9 : arg9.IsWhole) (arg10 : Memref sig .tc .vmem S2048x768 .f32) (harg10 : arg10.IsWhole) (arg11 : Memref sig .tc .vmem S2048x24 .bf16) (harg11 : arg11.IsWhole)
    (hc0 : cond0_0 i) (x0 : Vec Ideal S2048x768 .bf16) (x1 : Vec Ideal S768x3 .bf16) (x2 : Vec Ideal S1x3 .f32) (x3 : Vec Ideal S768x24 .bf16) (x4 : Vec Ideal S1x24 .f32) (x5 : Vec Ideal S24x768 .f32) (x6 : Vec Ideal S1x768x3072 .f32) (x7 : Vec Ideal S1x1x3072 .f32) (x8 : Vec Ideal S1x3072x768 .f32) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 x8
      = k0_pay8 (k0_pay3 x0 x1 x2) (k0_pay4 x0 x3 x4) (k0_pay5 x0 x1 x2 x3 x4) (k0_pay6 x0 x3 x4) := by
  unfold sout0_A_0 kernelRun0_A
  dsimp only
  rw [View.read_writes_junk_eq_canon]
  unfold kernelRun0_A.sl.HS0_1
  rw [View.canon_cons_unit_lit _ _ _ (by decide), v171_eq, v178_eq, v191_eq, v196_eq]

theorem first (c : Dev nD) (i : grid0.Coords) (arg1 : Memref sig .tc .vmem S2048x768 .bf16) (harg1 : arg1.IsWhole) (arg2 : Memref sig .tc .vmem S768x3 .bf16) (harg2 : arg2.IsWhole) (arg3 : Memref sig .tc .vmem S1x3 .f32) (harg3 : arg3.IsWhole) (arg4 : Memref sig .tc .vmem S768x24 .bf16) (harg4 : arg4.IsWhole) (arg5 : Memref sig .tc .vmem S1x24 .f32) (harg5 : arg5.IsWhole) (arg6 : Memref sig .tc .vmem S24x768 .f32) (harg6 : arg6.IsWhole) (arg7 : Memref sig .tc .vmem S1x768x3072 .f32) (harg7 : arg7.IsWhole) (arg8 : Memref sig .tc .vmem S1x1x3072 .f32) (harg8 : arg8.IsWhole) (arg9 : Memref sig .tc .vmem S1x3072x768 .f32) (harg9 : arg9.IsWhole) (arg10 : Memref sig .tc .vmem S2048x768 .f32) (harg10 : arg10.IsWhole) (arg11 : Memref sig .tc .vmem S2048x24 .bf16) (harg11 : arg11.IsWhole)
    (hc0 : cond0_0 i) (x0 : Vec Ideal S2048x768 .bf16) (x1 : Vec Ideal S768x3 .bf16) (x2 : Vec Ideal S1x3 .f32) (x3 : Vec Ideal S768x24 .bf16) (x4 : Vec Ideal S1x24 .f32) (x5 : Vec Ideal S24x768 .f32) (x6 : Vec Ideal S1x768x3072 .f32) (x7 : Vec Ideal S1x1x3072 .f32) (x8 : Vec Ideal S1x3072x768 .f32)
    (e : Fin 24) (he : (i 0 : ℕ) = e) (t : Fin 2048) (d : Fin 768) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 (ix2 t d)
      = k0_pay9 (k0_pay3 x0 x1 x2) (k0_pay4 x0 x3 x4) (k0_pay5 x0 x1 x2 x3 x4) (k0_pay6 x0 x3 x4) x5 (ix2 t d)
        + contrib (fun p => x0 (ix2 t p)) (fun p f => x6 (ix3 0 p f)) (fun f => x7 (ix3 0 0 f)) (fun f => x8 (ix3 0 f d))
            (k0_pay8 (k0_pay3 x0 x1 x2) (k0_pay4 x0 x3 x4) (k0_pay5 x0 x1 x2 x3 x4) (k0_pay6 x0 x3 x4) (ix2 t e)) := by
  have hs : kernelRun0_A.sl.v6 (F := Ideal) c arg1 harg1 arg2 harg2 arg3 harg3 arg4 harg4 arg5 harg5 arg11 x0 x1 x2 x3 x4
      = k0_pay8 (k0_pay3 x0 x1 x2) (k0_pay4 x0 x3 x4) (k0_pay5 x0 x1 x2 x3 x4) (k0_pay6 x0 x3 x4) := by
    unfold kernelRun0_A.sl.v6 kernelRun0_A.sl.HS0_1
    rw [View.readCov_unit_lit _ _ _ (by decide), v171_eq, v178_eq, v191_eq, v196_eq]
  have hb : kernelRun0_A.sl.H9_1 (F := Ideal) c arg1 harg1 arg2 harg2 arg3 harg3 arg4 harg4 arg5 harg5 arg6 harg6 x0 x1 x2 x3 x4 x5
      = [⟨Rect.unit (s := S2048x768) ![0, 0] S2048x768.size inb_S2048x768_S2048x768_0_0, k0_pay9 (k0_pay3 x0 x1 x2) (k0_pay4 x0 x3 x4) (k0_pay5 x0 x1 x2 x3 x4) (k0_pay6 x0 x3 x4) x5⟩] := by
    unfold kernelRun0_A.sl.H9_1
    simp only [View.readAt_eq_ld, harg6.read_unread]
    rw [v171_eq, v178_eq, v191_eq, v196_eq, View.ld_unit_lit _ x5 (by decide)]
  rw [← upd3]
  unfold out0_A_9 kernelRun0_A
  dsimp only
  rw [View.read_writes_junk_eq_canon]
  rcases Nat.lt_or_ge t 1024 with ht | ht
  · obtain ⟨r, hr⟩ : ∃ r : Fin 1024, (t : ℕ) = r := ⟨⟨t, ht⟩, rfl⟩
    have h' : t = ⟨r, by omega⟩ := Fin.ext hr
    unfold kernelRun0_A.sl.H9_6
    rw [left_lo _ _ _ t r d hr]
    unfold kernelRun0_A.sl.v130 kernelRun0_A.sl.H9_5 kernelRun0_A.sl.H9_4
    rw [load_lo]
    unfold kernelRun0_A.sl.v83 kernelRun0_A.sl.H9_3 kernelRun0_A.sl.H9_2
    rw [load_lo]
    unfold kernelRun0_A.sl.v36
    rw [hb, View.readCov_fill _ _ _ _ _ (by decide)]
    unfold kernelRun0_A.sl.r_2 kernelRun0_A.sl.r_4 kernelRun0_A.sl.r_9 kernelRun0_A.sl.r_5 kernelRun0_A.sl.r_6
      kernelRun0_A.sl.r_7 kernelRun0_A.sl.r_8 kernelRun0_A.sl.r kernelRun0_A.sl.cst_40
    rw [chunk_lo2, chunk_lo1, chunk_lo0, weight _ _ _ e he, hs]
    simp only [View.readAt_eq_ld, harg1.read_unread, harg7.read_unread, harg8.read_unread, harg9.read_unread]
    pointwise
    simp only [← h']
  · obtain ⟨r, hr⟩ : ∃ r : Fin 1024, (t : ℕ) = 1024 + r := ⟨⟨t - 1024, by omega⟩, by show (t : ℕ) = 1024 + (t - 1024); omega⟩
    have h' : t = ⟨1024 + r, by omega⟩ := Fin.ext hr
    rw [left_hi _ _ t r d hr]
    unfold kernelRun0_A.sl.v149 kernelRun0_A.sl.H9_6 kernelRun0_A.sl.H9_5
    rw [load_hi]
    unfold kernelRun0_A.sl.v102 kernelRun0_A.sl.H9_4 kernelRun0_A.sl.H9_3
    rw [load_hi]
    unfold kernelRun0_A.sl.v55 kernelRun0_A.sl.H9_2
    rw [load_hi_skip, hb, View.readCov_fill _ _ _ _ _ (by decide)]
    unfold kernelRun0_A.sl.r_10 kernelRun0_A.sl.r_11 kernelRun0_A.sl.r_9 kernelRun0_A.sl.r_1 kernelRun0_A.sl.r_2 kernelRun0_A.sl.r_3
      kernelRun0_A.sl.r_5 kernelRun0_A.sl.r_6 kernelRun0_A.sl.r_7 kernelRun0_A.sl.r
    rw [chunk_hi2, chunk_hi1, chunk_hi0, weight _ _ _ e he, hs]
    simp only [View.readAt_eq_ld, harg1.read_unread, harg7.read_unread, harg8.read_unread, harg9.read_unread]
    pointwise
    simp only [← h']

end Cert.KernelIdeal.Point

end
-- ==== Proof.PointB.lean ====
/-
  What a point after the first leaves in the output block: what was there, plus the point's expert's contribution.
-/
module

public import proofs.«01_k».proof.Proof.Halves
public import proofs.«01_k».proof.Proof.Chunk

@[expose] public section

set_option maxRecDepth 16384

noncomputable section

namespace Cert.KernelIdeal.Point

open Cert.Moe Cert.KernelIdeal Cert.KernelIdeal.Gen Idealize.ShloMosaic Idealize.ShloMosaic.TcCoe Idealize.SL.Sem
open Cert.KernelIdeal.Halves Cert.KernelIdeal.Chunk

theorem later (c : Dev nD) (i : grid0.Coords) (arg1 : Memref sig .tc .vmem S2048x768 .bf16) (harg1 : arg1.IsWhole) (arg2 : Memref sig .tc .vmem S768x3 .bf16) (harg2 : arg2.IsWhole) (arg3 : Memref sig .tc .vmem S1x3 .f32) (harg3 : arg3.IsWhole) (arg4 : Memref sig .tc .vmem S768x24 .bf16) (harg4 : arg4.IsWhole) (arg5 : Memref sig .tc .vmem S1x24 .f32) (harg5 : arg5.IsWhole) (arg6 : Memref sig .tc .vmem S24x768 .f32) (harg6 : arg6.IsWhole) (arg7 : Memref sig .tc .vmem S1x768x3072 .f32) (harg7 : arg7.IsWhole) (arg8 : Memref sig .tc .vmem S1x1x3072 .f32) (harg8 : arg8.IsWhole) (arg9 : Memref sig .tc .vmem S1x3072x768 .f32) (harg9 : arg9.IsWhole) (arg10 : Memref sig .tc .vmem S2048x768 .f32) (harg10 : arg10.IsWhole) (arg11 : Memref sig .tc .vmem S2048x24 .bf16) (harg11 : arg11.IsWhole)
    (hc0 : ¬cond0_0 i) (x0 : Vec Ideal S2048x768 .bf16) (x1 : Vec Ideal S768x3 .bf16) (x2 : Vec Ideal S1x3 .f32) (x3 : Vec Ideal S768x24 .bf16) (x4 : Vec Ideal S1x24 .f32) (x5 : Vec Ideal S24x768 .f32) (x6 : Vec Ideal S1x768x3072 .f32) (x7 : Vec Ideal S1x1x3072 .f32) (x8 : Vec Ideal S1x3072x768 .f32) (xo9 : Vec Ideal S2048x768 .f32) (xs0 : Vec Ideal S2048x24 .bf16)
    (e : Fin 24) (he : (i 0 : ℕ) = e) (t : Fin 2048) (d : Fin 768) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo9 xs0 (ix2 t d)
      = xo9 (ix2 t d) + contrib (fun p => x0 (ix2 t p)) (fun p f => x6 (ix3 0 p f)) (fun f => x7 (ix3 0 0 f)) (fun f => x8 (ix3 0 f d))
          (xs0 (ix2 t e)) := by
  rw [← upd3]
  unfold out0_B_9 kernelRun0_B
  dsimp only
  rw [View.read_writes_junk_eq_canon]
  rcases Nat.lt_or_ge t 1024 with ht | ht
  · obtain ⟨r, hr⟩ : ∃ r : Fin 1024, (t : ℕ) = r := ⟨⟨t, ht⟩, rfl⟩
    have h' : t = ⟨r, by omega⟩ := Fin.ext hr
    unfold kernelRun0_B.sl.H9_5
    rw [left_lo _ _ _ t r d hr]
    unfold kernelRun0_B.sl.v130 kernelRun0_B.sl.H9_4 kernelRun0_B.sl.H9_3
    rw [load_lo]
    unfold kernelRun0_B.sl.v83 kernelRun0_B.sl.H9_2
    rw [load_lo]
    unfold kernelRun0_B.sl.r_2 kernelRun0_B.sl.r_4 kernelRun0_B.sl.r_5 kernelRun0_B.sl.r_10 kernelRun0_B.sl.r_6 kernelRun0_B.sl.r_7
      kernelRun0_B.sl.r_8 kernelRun0_B.sl.r_9 kernelRun0_B.sl.r kernelRun0_B.sl.cst_40
    rw [chunk_lo2, chunk_lo1, chunk_lo0, weight _ _ _ e he]
    simp only [View.readAt_eq_ld, harg1.read_unread, harg7.read_unread, harg8.read_unread, harg9.read_unread, harg10.read_unread, harg11.read_unread]
    pointwise
    simp only [← h']
  · obtain ⟨r, hr⟩ : ∃ r : Fin 1024, (t : ℕ) = 1024 + r := ⟨⟨t - 1024, by omega⟩, by show (t : ℕ) = 1024 + (t - 1024); omega⟩
    have h' : t = ⟨1024 + r, by omega⟩ := Fin.ext hr
    rw [left_hi _ _ t r d hr]
    unfold kernelRun0_B.sl.v149 kernelRun0_B.sl.H9_5 kernelRun0_B.sl.H9_4
    rw [load_hi]
    unfold kernelRun0_B.sl.v102 kernelRun0_B.sl.H9_3 kernelRun0_B.sl.H9_2
    rw [load_hi]
    unfold kernelRun0_B.sl.v55 kernelRun0_B.sl.r_11 kernelRun0_B.sl.r_12 kernelRun0_B.sl.r_10 kernelRun0_B.sl.r_1 kernelRun0_B.sl.r_2 kernelRun0_B.sl.r_3
      kernelRun0_B.sl.r_6 kernelRun0_B.sl.r_7 kernelRun0_B.sl.r_8 kernelRun0_B.sl.r
    rw [chunk_hi2, chunk_hi1, chunk_hi0, weight _ _ _ e he]
    simp only [View.readAt_eq_ld, harg1.read_unread, harg7.read_unread, harg8.read_unread, harg9.read_unread, harg10.read_unread, harg11.read_unread]
    pointwise
    simp only [← h']

end Cert.KernelIdeal.Point

end
-- ==== Proof.Sweep.lean ====
/- The whole grid: the weights stay in the scratch array, and the output gathers one expert after the other. -/
module

public import proofs.«01_k».proof.Proof.Blocks
public import proofs.«01_k».proof.Proof.PointA
public import proofs.«01_k».proof.Proof.PointB

@[expose] public section

set_option maxRecDepth 16384

noncomputable section

namespace Cert.KernelIdeal.Sweep

open Cert.KernelIdeal Cert.KernelIdeal.Gen Cert.Moe Idealize.ShloMosaic Idealize.ShloMosaic.TcCoe Idealize.SL.Sem

variable (m : (ℓ : Loc nD τ sig) → Buf (Elt Ideal) ℓ) (c : Dev nD)

/-! The arrays the kernel is handed. -/

def X : Vec Ideal S2048x768 .bf16 := V m c main_v0
def Wg : Vec Ideal S768x3 .bf16 := V m c main_v1
def Bg : Vec Ideal S1x3 .f32 := V m c main_v5
def Wr : Vec Ideal S768x24 .bf16 := V m c main_v4
def Br : Vec Ideal S1x24 .f32 := V m c main_v6
def B2 : Vec Ideal S24x768 .f32 := V m c main_v10
def W1 : Vec Ideal S24x768x3072 .f32 := V m c main_v7
def B1 : Vec Ideal S24x1x3072 .f32 := V m c main_v8
def W2 : Vec Ideal S24x3072x768 .f32 := V m c main_v9

/-- Half the routing weights, as the first point stores them. -/
def half : Vec Ideal S2048x24 .bf16 :=
  k0_pay8 (k0_pay3 (X m c) (Wg m c) (Bg m c)) (k0_pay4 (X m c) (Wr m c) (Br m c)) (k0_pay5 (X m c) (Wg m c) (Bg m c) (Wr m c) (Br m c))
    (k0_pay6 (X m c) (Wr m c) (Br m c))

/-- The weighted second biases, as the first point stores them. -/
def start : Vec Ideal S2048x768 .f32 :=
  k0_pay9 (k0_pay3 (X m c) (Wg m c) (Bg m c)) (k0_pay4 (X m c) (Wr m c) (Br m c)) (k0_pay5 (X m c) (Wg m c) (Bg m c) (Wr m c) (Br m c))
    (k0_pay6 (X m c) (Wr m c) (Br m c)) (B2 m c)

/-- What expert `e` adds to the output at row `t`, column `d`. -/
def term (t : Fin 2048) (d : Fin 768) (e : Fin 24) : EReal :=
  contrib (fun p => X m c (ix2 t p)) (fun p f => W1 m c (ix3 e p f)) (fun f => B1 m c (ix3 e 0 f)) (fun f => W2 m c (ix3 e f d))
    (half m c (ix2 t e))

/-- The same, zero past the last expert. -/
def termN (t : Fin 2048) (d : Fin 768) (n : ℕ) : EReal := if h : n < 24 then term m c t d ⟨n, h⟩ else 0

theorem step_first (p : Fin cfg0.N) (acc : Vec Ideal S2048x768 .f32 × Vec Ideal S2048x24 .bf16) (h0 : p.val % 24 = 0) (e : Fin 24)
    (he : e.val = p.val) :
    (Value.stAt0 m c p.val p.isLt acc).2 = half m c
      ∧ ∀ t d, (Value.stAt0 m c p.val p.isLt acc).1 (ix2 t d) = start m c (ix2 t d) + term m c t d e := by
  have hc : (grid0.coords p 0 : ℕ) = e := (Blocks.coord p).trans he.symm
  rw [Value.stAt0_A m c p acc h0]
  refine ⟨?_, fun t d => ?_⟩
  · dsimp only
    rw [Point.first_scratch, Blocks.block0, Blocks.block1, Blocks.block2, Blocks.block3, Blocks.block4]
    rfl
  · dsimp only
    rw [Point.first (e := e) (he := hc)]
    simp only [Blocks.block6 m c p e he, Blocks.block7 m c p e he, Blocks.block8 m c p e he]
    rw [Blocks.block0, Blocks.block1, Blocks.block2, Blocks.block3, Blocks.block4, Blocks.block5]
    rfl

theorem step_later (p : Fin cfg0.N) (acc : Vec Ideal S2048x768 .f32 × Vec Ideal S2048x24 .bf16) (h0 : ¬p.val % 24 = 0) (e : Fin 24)
    (he : e.val = p.val) (hacc : acc.2 = half m c) :
    (Value.stAt0 m c p.val p.isLt acc).2 = half m c
      ∧ ∀ t d, (Value.stAt0 m c p.val p.isLt acc).1 (ix2 t d) = acc.1 (ix2 t d) + term m c t d e := by
  have hc : (grid0.coords p 0 : ℕ) = e := (Blocks.coord p).trans he.symm
  rw [Value.stAt0_B m c p acc h0]
  refine ⟨hacc, fun t d => ?_⟩
  dsimp only
  rw [Point.later (e := e) (he := hc)]
  simp only [Blocks.block6 m c p e he, Blocks.block7 m c p e he, Blocks.block8 m c p e he]
  rw [Blocks.block0, hacc]
  rfl

/-- After point `n`: the weights, and the biases with the experts up to `n`. -/
theorem upto (n : ℕ) (hn : n < cfg0.N) :
    (outsAt0 m c n hn).2 = half m c
      ∧ ∀ t d, (outsAt0 m c n hn).1 (ix2 t d) = start m c (ix2 t d) + ∑ k ∈ Finset.range (n + 1), termN m c t d k := by
  induction n with
  | zero =>
    rw [Value.outsAt0_zero]
    obtain ⟨hs, ho⟩ := step_first m c ⟨0, hn⟩ Value.junk0 (Nat.zero_mod _) 0 rfl
    refine ⟨hs, fun t d => (ho t d).trans ?_⟩
    rw [Finset.sum_range_one]
    rfl
  | succ n ih =>
    have hN : n + 1 < 24 := lt_of_lt_of_eq hn N_0
    obtain ⟨ihs, iho⟩ := ih (Nat.lt_of_succ_lt hn)
    rw [Value.outsAt0_succ]
    obtain ⟨hs, ho⟩ := step_later m c ⟨n + 1, hn⟩ (outsAt0 m c n (Nat.lt_of_succ_lt hn)) (by show ¬(n + 1) % 24 = 0; omega)
      ⟨n + 1, hN⟩ rfl ihs
    refine ⟨hs, fun t d => (ho t d).trans ?_⟩
    rw [iho, Finset.sum_range_succ _ (n + 1), add_assoc]
    congr 2
    unfold termN
    rw [dif_pos hN]

/-- The result array: the biases and all the experts. -/
theorem final (t : Fin 2048) (d : Fin 768) :
    (Value.G9 m c : Vec Ideal S2048x768 .f32) (ix2 t d)
      = start m c (ix2 t d) + ∑ g : Fin 3, ∑ j : Fin 8, term m c t d ⟨g * 8 + j, by omega⟩ := by
  have hn : 23 < cfg0.N := lt_of_lt_of_eq (by decide) N_0.symm
  rw [Value.G9_last, ← Value.outsAt0_sweep m c 23 hn, (upto m c 23 hn).2, Finset.sum_range]
  congr 1
  refine Eq.trans (Finset.sum_congr rfl fun e _ => dif_pos e.isLt) ?_
  exact Fin.sum_univ_tiles 3 8 rfl (fun e : Fin 24 => term m c t d e)

end Cert.KernelIdeal.Sweep

end
-- ==== Proof.Weights.lean ====
/-
  What the kernel's first point computes before its experts: the 24 weights of a token (the softmax over a group's eight
  experts times the softmax over the groups), their halves, and their product with the experts' second biases.
-/
module

public import proofs.«01_k».proof.Proof.Gen.KernelIdeal.Value
public import proofs.«01_k».proof.Proof.Moe
public import proofs.«01_k».proof.Proof.Consts
public import Idealize.ShloMosaic.Lib.Pointwise

@[expose] public section

set_option maxRecDepth 16384

noncomputable section

namespace Cert.KernelIdeal.Weights

open Cert.Moe Cert.KernelIdeal Cert.KernelIdeal.Gen Idealize.ShloMosaic Idealize.ShloMosaic.TcCoe Idealize.SL.Sem

variable (x0 : Vec Ideal S2048x768 .bf16) (x1 : Vec Ideal S768x3 .bf16) (x2 : Vec Ideal S1x3 .f32) (x3 : Vec Ideal S768x24 .bf16)
  (x4 : Vec Ideal S1x24 .f32) (x5 : Vec Ideal S24x768 .f32) (t : Fin 2048)

/-- The token's group scores. -/
abbrev gl : Fin 3 → EReal := logit (fun p => x0 (ix2 t p)) (fun p j => x1 (ix2 p j)) (fun j => x2 (ix2 0 j))

/-- The token's expert scores. -/
abbrev el : Fin 24 → EReal := logit (fun p => x0 (ix2 t p)) (fun p j => x3 (ix2 p j)) (fun j => x4 (ix2 0 j))

/-- The weight of expert `j` of group `g`, from the scores. -/
def weight (gl : Fin 3 → EReal) (el : Fin 24 → EReal) (g : Fin 3) (j : Fin 8) : EReal :=
  softmax (fun k : Fin 8 => el ⟨g * 8 + k, by omega⟩) j * softmax gl g

theorem group_prob (g : Fin 3) : k0_pay3 x0 x1 x2 (ix2 t g) = softmax (gl x0 x1 x2 t) g := by
  unfold gl softmax top logit
  pointwise [k0_pay3, k0_pay2]
  simp only [Consts.negInf]

theorem expert_logit (k : Fin 24) : k0_pay4 x0 x3 x4 (ix2 t k) = el x0 x3 x4 t k := by
  unfold el logit
  pointwise [k0_pay4, k0_pay2]

/-- The 24 weights, laid out by group. -/
theorem weights (g : Fin 3) (j : Fin 8) :
    k0_pay7 (k0_pay3 x0 x1 x2) (k0_pay4 x0 x3 x4) (k0_pay5 x0 x1 x2 x3 x4) (k0_pay6 x0 x3 x4) (ix2 t ⟨g * 8 + j, by omega⟩)
      = weight (gl x0 x1 x2 t) (el x0 x3 x4 t) g j := by
  unfold weight
  rw [← group_prob]
  unfold softmax top
  simp only [← expert_logit]
  fin_cases g
  · pointwise [k0_pay7, k0_pay5, k0_pay6]
    simp only [Consts.negInf]
  · pointwise [k0_pay7, k0_pay5, k0_pay6]
    simp only [Consts.negInf]
  · pointwise [k0_pay7, k0_pay5, k0_pay6]
    have h : 16 + (16 + (j : ℕ) - 8 - 8) = 16 + j := by omega
    rw [dif_neg (by omega), dif_neg (by omega)]
    simp only [Consts.negInf, h]

theorem half_weights (g : Fin 3) (j : Fin 8) :
    k0_pay8 (k0_pay3 x0 x1 x2) (k0_pay4 x0 x3 x4) (k0_pay5 x0 x1 x2 x3 x4) (k0_pay6 x0 x3 x4) (ix2 t ⟨g * 8 + j, by omega⟩)
      = weight (gl x0 x1 x2 t) (el x0 x3 x4 t) g j * ((1 / 2 : ℝ) : EReal) := by
  rw [← weights x0 x1 x2 x3 x4 t g j, ← Consts.half]
  pointwise [k0_pay8]

/-- The weighted second biases. -/
theorem bias (d : Fin 768) :
    k0_pay9 (k0_pay3 x0 x1 x2) (k0_pay4 x0 x3 x4) (k0_pay5 x0 x1 x2 x3 x4) (k0_pay6 x0 x3 x4) x5 (ix2 t d)
      = ∑ g : Fin 3, ∑ j : Fin 8, weight (gl x0 x1 x2 t) (el x0 x3 x4 t) g j * x5 (ix2 ⟨g * 8 + j, by omega⟩ d) := by
  simp only [← weights]
  pointwise [k0_pay9]
  exact Fin.sum_univ_tiles 3 8 rfl (fun c : Fin 24 =>
    k0_pay7 (k0_pay3 x0 x1 x2) (k0_pay4 x0 x3 x4) (k0_pay5 x0 x1 x2 x3 x4) (k0_pay6 x0 x3 x4) (ix2 t c) * x5 (ix2 c d))

end Cert.KernelIdeal.Weights

end
-- ==== Proof.RefAt.lean ====
/-
  The reference at an element: the weighted sum over the three groups and their eight experts of each expert's output, the
  weight being the product of the two softmaxes.
-/
module

public import proofs.«01_k».proof.Proof.Gen.ReferenceIdeal.Read
public import proofs.«01_k».proof.Proof.Moe
public import proofs.«01_k».proof.Proof.Consts
public import Idealize.ShloMosaic.Lib.Pointwise

@[expose] public section

set_option maxRecDepth 16384

noncomputable section

namespace Cert.ReferenceIdeal.At

open Cert.Moe Cert.ReferenceIdeal Cert.ReferenceIdeal.Gen Cert.ReferenceIdeal.Read Idealize.ShloMosaic Idealize.ShloMosaic.TcCoe Idealize.SL.Sem

variable (x0 : (⟨S2048x768, .f32⟩ : BufTy).Contents (Elt Ideal)) (x1 : (⟨S768x3, .f32⟩ : BufTy).Contents (Elt Ideal))
  (x2 : (⟨S3, .f32⟩ : BufTy).Contents (Elt Ideal)) (x3 : (⟨S3x768x8, .f32⟩ : BufTy).Contents (Elt Ideal))
  (x4 : (⟨S3x8, .f32⟩ : BufTy).Contents (Elt Ideal)) (x5 : (⟨S3x8x768x3072, .f32⟩ : BufTy).Contents (Elt Ideal))
  (x6 : (⟨S3x8x3072, .f32⟩ : BufTy).Contents (Elt Ideal)) (x7 : (⟨S3x8x3072x768, .f32⟩ : BufTy).Contents (Elt Ideal))
  (x8 : (⟨S3x8x768, .f32⟩ : BufTy).Contents (Elt Ideal)) (t : Fin 2048) (g : Fin 3) (e : Fin 8)

/-- The group scores. -/
theorem group_logit (k : Fin 3) :
    val_main_v3 x0 x1 x2 (ix2 t k) = logit (fun p => x0 (ix2 t p)) (fun p j => x1 (ix2 p j)) (fun j => x2 (ix1 j)) k := by
  unfold logit
  pointwise [val_main_v3, val_main_v0, val_main_v2, val_main_v1]

/-- The group probabilities. -/
theorem group_prob :
    val_main_v14 x0 x1 x2 (ix2 t g)
      = softmax (logit (fun p => x0 (ix2 t p)) (fun p j => x1 (ix2 p j)) (fun j => x2 (ix1 j))) g := by
  unfold softmax top
  simp only [← group_logit]
  pointwise [val_main_v14, val_main_v13, val_main_v12, val_main_v11, val_main_v10, val_main_v9, val_main_v8, val_main_v7, val_main_v6,
    val_main_v5, val_main_v4, val_main_cst, val_main_cst_0, val_main_cst_1]
  simp only [Consts.negInf, bot_le, max_eq_right]

/-- The expert scores of a group; the temperature is one. -/
theorem expert_logit (k : Fin 8) :
    val_main_v20 x0 x3 x4 (ix3 t g k)
      = logit (fun p => x0 (ix2 t p)) (fun p j => x3 (ix3 g p j)) (fun j => x4 (ix2 g j)) k := by
  unfold logit
  pointwise [val_main_v20, val_main_v19, val_main_v18, val_main_v17, val_main_v16, val_main_v15, val_main_cst_2]
  have h := Ideal.div_coe (one_ne_zero : (1 : ℝ) ≠ 0) (∑ p, x0 (ix2 t p) * x3 (ix3 g p k) + x4 (ix2 g k))
  simpa using h

/-- The expert probabilities within a group. -/
theorem expert_prob :
    val_main_v31 x0 x3 x4 (ix3 t g e)
      = softmax (logit (fun p => x0 (ix2 t p)) (fun p j => x3 (ix3 g p j)) (fun j => x4 (ix2 g j))) e := by
  unfold softmax top
  simp only [← expert_logit]
  pointwise [val_main_v31, val_main_v30, val_main_v29, val_main_v28, val_main_v27, val_main_v26, val_main_v25, val_main_v24,
    val_main_v23, val_main_v22, val_main_v21, val_main_cst_3, val_main_cst_4, val_main_cst_5]
  simp only [Consts.negInf, bot_le, max_eq_right]

/-- The first layer. -/
theorem hidden (f : Fin 3072) :
    val_main_v35 x0 x5 x6 (ix4 t g e f)
      = logit (fun p => x0 (ix2 t p)) (fun p f => x5 (ix4 g e p f)) (fun f => x6 (ix3 g e f)) f := by
  unfold logit
  pointwise [val_main_v35, val_main_v34, val_main_v33, val_main_v32]

/-- The activation. -/
theorem activation (f : Fin 3072) :
    val_main_v44 x0 x5 x6 (ix4 t g e f)
      = gelu (logit (fun p => x0 (ix2 t p)) (fun p f => x5 (ix4 g e p f)) (fun f => x6 (ix3 g e f)) f) := by
  unfold gelu
  rw [← hidden]
  pointwise [val_main_v44, val_main_v43, val_main_v42, val_main_v41, val_main_v40, val_main_v39, val_main_v38, val_main_v37, val_main_v36,
    val_main_cst_6, val_main_cst_7, val_main_cst_8]
  rw [Consts.half, Consts.two, Ideal.sqrt_coe, if_neg (by norm_num), EReal.coe_one]

/-- One expert's output. -/
theorem expert_out (d : Fin 768) :
    val_main_v49 x0 x5 x6 x7 x8 (ix4 t g e d)
      = expert (fun p => x0 (ix2 t p)) (fun p f => x5 (ix4 g e p f)) (fun f => x6 (ix3 g e f)) (fun f => x7 (ix4 g e f d)) (x8 (ix3 g e d)) := by
  unfold expert
  simp only [← activation]
  pointwise [val_main_v49, val_main_v48, val_main_v47, val_main_v46, val_main_v45]

/-- The reference at an element. -/
theorem result (d : Fin 768) :
    val_main_v53 x0 x1 x2 x3 x4 x5 x6 x7 x8 (ix2 t d)
      = ∑ e : Fin 8, ∑ g : Fin 3,
          expert (fun p => x0 (ix2 t p)) (fun p f => x5 (ix4 g e p f)) (fun f => x6 (ix3 g e f)) (fun f => x7 (ix4 g e f d)) (x8 (ix3 g e d))
            * (softmax (logit (fun p => x0 (ix2 t p)) (fun p j => x3 (ix3 g p j)) (fun j => x4 (ix2 g j))) e
              * softmax (logit (fun p => x0 (ix2 t p)) (fun p j => x1 (ix2 p j)) (fun j => x2 (ix1 j))) g) := by
  simp only [← expert_out, ← expert_prob, ← group_prob]
  pointwise [val_main_v53]
  refine Finset.sum_congr rfl fun e _ => Finset.sum_congr rfl fun g _ => ?_
  congr 1
  pointwise [val_main_v52, val_main_v51, val_main_v50]

end Cert.ReferenceIdeal.At

end
-- ==== Proof.Join.lean ====
/- The kernel's result array, element by element, is the reference's. -/
module

public import proofs.«01_k».proof.Proof.Sweep
public import proofs.«01_k».proof.Proof.Weights
public import proofs.«01_k».proof.Proof.RefAt

@[expose] public section

set_option maxRecDepth 16384

noncomputable section

namespace Cert.Moe

/-- Biases first and half weights folded in, or each expert's whole output weighted: the same sum. -/
theorem regroup (x : Fin 768 → EReal) (W1 : Fin 3 → Fin 8 → Fin 768 → Fin 3072 → EReal) (B : Fin 3 → Fin 8 → Fin 3072 → EReal)
    (W2 : Fin 3 → Fin 8 → Fin 3072 → EReal) (b2 w : Fin 3 → Fin 8 → EReal)
    (hx : ∀ p, Real' (x p)) (hW : ∀ g j p f, Real' (W1 g j p f)) (hB : ∀ g j f, Real' (B g j f))
    (hw : ∀ g j, ∃ r : ℝ, 0 ≤ r ∧ w g j = (r : EReal)) :
    (∑ g, ∑ j, w g j * b2 g j) + ∑ g, ∑ j, contrib x (W1 g j) (B g j) (W2 g j) (w g j * ((1 / 2 : ℝ) : EReal))
      = ∑ j, ∑ g, expert x (W1 g j) (B g j) (W2 g j) (b2 g j) * w g j := by
  rw [← Finset.sum_add_distrib, Finset.sum_comm]
  refine Finset.sum_congr rfl fun g _ => ?_
  rw [← Finset.sum_add_distrib]
  refine Finset.sum_congr rfl fun j _ => ?_
  obtain ⟨r, hr, e⟩ := hw g j
  rw [e]
  exact contrib_eq x (W1 g j) (B g j) (W2 g j) (b2 g j) hx (hW g j) (hB g j) r hr

end Cert.Moe

namespace Cert.KernelIdeal.Join

open Cert.KernelIdeal Cert.KernelIdeal.Gen Cert.Moe Idealize.ShloMosaic Idealize.ShloMosaic.TcCoe Idealize.SL.Sem

variable (m : (ℓ : Loc nD τ sig) → Buf (Elt Ideal) ℓ) (c : Dev nD)

/-! The program's argument arrays. -/

abbrev a0 : Vec Ideal S2048x768 .f32 := m ((c : Thread nD τ).loc main_arg0)
abbrev a1 : Vec Ideal S768x3 .f32 := m ((c : Thread nD τ).loc main_arg1)
abbrev a2 : Vec Ideal S3 .f32 := m ((c : Thread nD τ).loc main_arg2)
abbrev a3 : Vec Ideal S3x768x8 .f32 := m ((c : Thread nD τ).loc main_arg3)
abbrev a4 : Vec Ideal S3x8 .f32 := m ((c : Thread nD τ).loc main_arg4)
abbrev a5 : Vec Ideal S3x8x768x3072 .f32 := m ((c : Thread nD τ).loc main_arg5)
abbrev a6 : Vec Ideal S3x8x3072 .f32 := m ((c : Thread nD τ).loc main_arg6)
abbrev a7 : Vec Ideal S3x8x3072x768 .f32 := m ((c : Thread nD τ).loc main_arg7)
abbrev a8 : Vec Ideal S3x8x768 .f32 := m ((c : Thread nD τ).loc main_arg8)

/-! The arrays the kernel is handed, at an index. -/

theorem at_X (t : Fin 2048) (p : Fin 768) : Sweep.X m c (ix2 t p) = a0 m c (ix2 t p) := Blocks.host0 m c t p
theorem at_Wg (p : Fin 768) (j : Fin 3) : Sweep.Wg m c (ix2 p j) = a1 m c (ix2 p j) := Blocks.host1 m c p j
theorem at_Bg (j : Fin 3) : Sweep.Bg m c (ix2 0 j) = a2 m c (ix1 j) := Blocks.host2 m c j
theorem at_Wr (p : Fin 768) (g : Fin 3) (j : Fin 8) : Sweep.Wr m c (ix2 p ⟨g * 8 + j, by omega⟩) = a3 m c (ix3 g p j) :=
  Blocks.host3 m c p g j
theorem at_Br (g : Fin 3) (j : Fin 8) : Sweep.Br m c (ix2 0 ⟨g * 8 + j, by omega⟩) = a4 m c (ix2 g j) := Blocks.host4 m c g j
theorem at_B2 (g : Fin 3) (j : Fin 8) (d : Fin 768) : Sweep.B2 m c (ix2 ⟨g * 8 + j, by omega⟩ d) = a8 m c (ix3 g j d) :=
  Blocks.host5 m c g j d
theorem at_W1 (g : Fin 3) (j : Fin 8) (p : Fin 768) (f : Fin 3072) :
    Sweep.W1 m c (ix3 ⟨g * 8 + j, by omega⟩ p f) = a5 m c (ix4 g j p f) := Blocks.host6 m c g j p f
theorem at_B1 (g : Fin 3) (j : Fin 8) (f : Fin 3072) : Sweep.B1 m c (ix3 ⟨g * 8 + j, by omega⟩ 0 f) = a6 m c (ix3 g j f) :=
  Blocks.host7 m c g j f
theorem at_W2 (g : Fin 3) (j : Fin 8) (f : Fin 3072) (d : Fin 768) :
    Sweep.W2 m c (ix3 ⟨g * 8 + j, by omega⟩ f d) = a7 m c (ix4 g j f d) := Blocks.host8 m c g j f d

/-- A token's scores for the groups, and for the experts of a group. -/
def groups (t : Fin 2048) : Fin 3 → EReal := logit (fun p => a0 m c (ix2 t p)) (fun p j => a1 m c (ix2 p j)) (fun j => a2 m c (ix1 j))
def experts (t : Fin 2048) (g : Fin 3) : Fin 8 → EReal :=
  logit (fun p => a0 m c (ix2 t p)) (fun p j => a3 m c (ix3 g p j)) (fun j => a4 m c (ix2 g j))

theorem scores_groups (t : Fin 2048) : Weights.gl (Sweep.X m c) (Sweep.Wg m c) (Sweep.Bg m c) t = groups m c t := by
  funext j
  unfold groups Weights.gl logit
  simp only [at_X, at_Wg, at_Bg]

theorem scores_experts (t : Fin 2048) (g : Fin 3) (k : Fin 8) :
    Weights.el (Sweep.X m c) (Sweep.Wr m c) (Sweep.Br m c) t ⟨g * 8 + k, by omega⟩ = experts m c t g k := by
  unfold experts Weights.el logit
  simp only [at_X, at_Wr, at_Br]

theorem weight_eq (t : Fin 2048) (g : Fin 3) (j : Fin 8) :
    Weights.weight (Weights.gl (Sweep.X m c) (Sweep.Wg m c) (Sweep.Bg m c) t) (Weights.el (Sweep.X m c) (Sweep.Wr m c) (Sweep.Br m c) t) g j
      = softmax (experts m c t g) j * softmax (groups m c t) g := by
  unfold Weights.weight
  rw [scores_groups]
  simp only [scores_experts]

/-- The kernel's result, from the program's arguments. -/
theorem kernel_at (t : Fin 2048) (d : Fin 768) :
    (Value.G9 m c : Vec Ideal S2048x768 .f32) (ix2 t d)
      = (∑ g : Fin 3, ∑ j : Fin 8, softmax (experts m c t g) j * softmax (groups m c t) g * a8 m c (ix3 g j d))
        + ∑ g : Fin 3, ∑ j : Fin 8, contrib (fun p => a0 m c (ix2 t p)) (fun p f => a5 m c (ix4 g j p f)) (fun f => a6 m c (ix3 g j f))
            (fun f => a7 m c (ix4 g j f d)) (softmax (experts m c t g) j * softmax (groups m c t) g * ((1 / 2 : ℝ) : EReal)) := by
  rw [Sweep.final]
  unfold Sweep.start Sweep.term Sweep.half
  rw [Weights.bias]
  simp only [Weights.half_weights, weight_eq, at_X, at_B2, at_W1, at_B1, at_W2]

theorem real_weight (h0 : ∀ i, Real' (a0 m c i)) (h1 : ∀ i, Real' (a1 m c i)) (h2 : ∀ i, Real' (a2 m c i)) (h3 : ∀ i, Real' (a3 m c i))
    (h4 : ∀ i, Real' (a4 m c i)) (t : Fin 2048) (g : Fin 3) (j : Fin 8) :
    ∃ r : ℝ, 0 ≤ r ∧ softmax (experts m c t g) j * softmax (groups m c t) g = (r : EReal) := by
  obtain ⟨r, hr, er⟩ := softmax_real (experts m c t g) (fun k => logit_real _ _ _ (fun _ => h0 _) (fun _ _ => h3 _) (fun _ => h4 _) k) j
  obtain ⟨s, hs, es⟩ := softmax_real (groups m c t) (fun k => logit_real _ _ _ (fun _ => h0 _) (fun _ _ => h1 _) (fun _ => h2 _) k) g
  exact ⟨r * s, mul_nonneg hr hs, by rw [er, es, EReal.coe_mul]⟩

/-- The kernel's result array is the reference's function of the same arguments. -/
theorem result_eq (h0 : ∀ i, Real' (a0 m c i)) (h1 : ∀ i, Real' (a1 m c i)) (h2 : ∀ i, Real' (a2 m c i)) (h3 : ∀ i, Real' (a3 m c i))
    (h4 : ∀ i, Real' (a4 m c i)) (h5 : ∀ i, Real' (a5 m c i)) (h6 : ∀ i, Real' (a6 m c i)) :
    Cert.ReferenceIdeal.Read.val_main_v53 (F := Ideal) (a0 m c) (a1 m c) (a2 m c) (a3 m c) (a4 m c) (a5 m c) (a6 m c) (a7 m c) (a8 m c)
      = Value.G9 m c := by
  funext i
  obtain ⟨t, d, rfl⟩ : ∃ (t : Fin 2048) (d : Fin 768), i = ix2 t d :=
    ⟨i 0, i 1, funext fun a => match a with | ⟨0, _⟩ => rfl | ⟨1, _⟩ => rfl⟩
  refine (Cert.ReferenceIdeal.At.result (a0 m c) (a1 m c) (a2 m c) (a3 m c) (a4 m c) (a5 m c) (a6 m c) (a7 m c) (a8 m c) t d).trans ?_
  rw [kernel_at]
  exact (regroup (fun p => a0 m c (ix2 t p)) (fun g j p f => a5 m c (ix4 g j p f)) (fun g j f => a6 m c (ix3 g j f))
    (fun g j f => a7 m c (ix4 g j f d)) (fun g j => a8 m c (ix3 g j d)) (fun g j => softmax (experts m c t g) j * softmax (groups m c t) g)
    (fun _ => h0 _) (fun _ _ _ _ => h5 _) (fun _ _ _ => h6 _) (real_weight m c h0 h1 h2 h3 h4 t)).symm

end Cert.KernelIdeal.Join

end
-- ==== Proof.lean ====
/-
  The assembly of the certificate: each conjunct of `Cert.Claim` closed by the run of its program. The kernels' frames are
  the generated ones, the reference's is its generated run weakened, `preserves` is the one named constant's statement, and
  the value claim joins the kernel's result to the reference's.
-/
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Finite
public import proofs.«01_k».proof.Proof.Join
public import Idealize.ShloMosaic.Adequacy
public import Idealize.ShloMosaic.Init
public import Idealize.ShloMosaic.Lib.Quiescent

@[expose] public section

noncomputable section

namespace Cert.Proof

open Idealize.ShloMosaic Idealize.SL.Sem

theorem preserves : preserves_Kernel_KernelIdeal :=
  IdealRules.named_const.statement Cert.KernelIdeal.κ "inv_sqrt2" .bf16 0x3F35#16 (((Real.sqrt 2)⁻¹ : ℝ) : EReal) rfl

theorem quiescent_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : algebraic_KernelIdeal_ReferenceIdeal_pre_finite := by
  intro m ρ m' ρ' hpre hagree
  refine ⟨fun c => Cert.KernelIdeal.Value.G9 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  obtain ⟨h0, h1, h2, h3, h4, h5, h6⟩ := Cert.Finite.all_real _ _ _ _ _ _ _ _ _ _ (congrFun (hpre c) (fun a => a.elim0))
  rw [Cert.ReferenceIdeal.Read.val_main_v53_eq m' c, e0, e1, e2, e3, e4, e5, e6, e7, e8]
  exact Cert.KernelIdeal.Join.result_eq m c h0 h1 h2 h3 h4 h5 h6

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial, preserves, algebraic⟩

end Cert.Proof

end
